-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S1x3072x5120 : Shape := ⟨3, ![1, 3072, 5120]⟩
abbrev S5120x7680 : Shape := ⟨2, ![5120, 7680]⟩
abbrev S7680 : Shape := ⟨1, ![7680]⟩
abbrev S1x3072 : Shape := ⟨2, ![1, 3072]⟩
abbrev S_ : Shape := ⟨0, ![]⟩

class Facts : Prop where
  bitsLt_bf16_f32 : FTy.bits .bf16 < FTy.bits .f32
  reducesTo_S1x3072x5120_S1x3072_d2 : S1x3072x5120.ReducesTo [2] S1x3072
  h_S_ : 0 < S_.numel
  bcast_S_S1x3072 : S_.BroadcastsInDim S1x3072 (![] : Fin 0 → Fin S1x3072.rank)

variable [Facts]

def fn {F : FTy → Type} [FloatOps F] (main_arg0 : FVec F S1x3072x5120 .bf16) (main_arg1 : FVec F S5120x7680 .fp8e4m3) (main_arg2 : FVec F S7680 .f32) (main_arg3 : FVec F S7680 .bf16) (main_arg4 : IVec S1x3072 32) : IVec S1x3072 1 :=
  let main_v0 : FVec F S1x3072x5120 .f32 := (extf .f32 · bitsLt_bf16_f32) main_arg0
  let main_v1 : FVec F S1x3072x5120 .f32 := Host.absf main_v0
  let main_cst : FVec F S_ .f32 := constant S_ .f32 0xFF800000#32
  let main_v2 : FVec F S1x3072 .f32 := (fun x v => Host.reduce FloatOps.maximumf x v reducesTo_S1x3072x5120_S1x3072_d2 h_S_) main_v1 main_cst
  let main_cst_0 : FVec F S_ .f32 := constant S_ .f32 0x3B124925#32
  let main_v3 : FVec F S1x3072 .f32 := broadcastInDim S1x3072 ![] bcast_S_S1x3072 main_cst_0
  let main_v4 : FVec F S1x3072 .f32 := mulf main_v2 main_v3
  let main_cst_1 : FVec F S_ .f32 := constant S_ .f32 0x00000000#32
  let main_v5 : FVec F S1x3072 .f32 := broadcastInDim S1x3072 ![] bcast_S_S1x3072 main_cst_1
  let main_v6 : IVec S1x3072 1 := cmpf .oeq main_v2 main_v5
  let main_cst_2 : FVec F S_ .f32 := constant S_ .f32 0x00800000#32
  let main_v7 : FVec F S1x3072 .f32 := broadcastInDim S1x3072 ![] bcast_S_S1x3072 main_cst_2
  let main_v8 : IVec S1x3072 1 := cmpf .oge main_v4 main_v7
  let main_cst_3 : FVec F S_ .f32 := constant S_ .f32 0x7F7F0000#32
  let main_v9 : FVec F S1x3072 .f32 := broadcastInDim S1x3072 ![] bcast_S_S1x3072 main_cst_3
  let main_v10 : IVec S1x3072 1 := cmpf .ole main_v2 main_v9
  let main_v11 : IVec S1x3072 1 := andi main_v8 main_v10
  let main_v12 : IVec S1x3072 1 := ori main_v6 main_v11
  main_v12
-- ==== Kernel.lean ====
abbrev S1x3072x5120 : Shape := ⟨3, ![1, 3072, 5120]⟩
abbrev S5120x7680 : Shape := ⟨2, ![5120, 7680]⟩
abbrev S7680 : Shape := ⟨1, ![7680]⟩
abbrev S1x3072 : Shape := ⟨2, ![1, 3072]⟩
abbrev S3072x5120 : Shape := ⟨2, ![3072, 5120]⟩
abbrev S60x128 : Shape := ⟨2, ![60, 128]⟩
abbrev S20x3072x128 : Shape := ⟨3, ![20, 3072, 128]⟩
abbrev S256x5120 : Shape := ⟨2, ![256, 5120]⟩
abbrev S1x256 : Shape := ⟨2, ![1, 256]⟩
abbrev S20x256x128 : Shape := ⟨3, ![20, 256, 128]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x128 : Shape := ⟨2, ![1, 128]⟩
abbrev S5120x512 : Shape := ⟨2, ![5120, 512]⟩
abbrev S256x512 : Shape := ⟨2, ![256, 512]⟩
abbrev S1x256x128 : Shape := ⟨3, ![1, 256, 128]⟩
abbrev S3072x20x128 : Shape := ⟨3, ![3072, 20, 128]⟩
abbrev S1x3072x20x128 : Shape := ⟨4, ![1, 3072, 20, 128]⟩
abbrev S1x3072x1 : Shape := ⟨3, ![1, 3072, 1]⟩

abbrev nBuf : Space → Nat
  | .hbm => 21
  | .vmem => 17
  | .smem => 0
  | _ => 0

abbrev bufTy : (tb : Table) → Fin (tcTables nBuf tb) → BufTy
  | .hbm, ⟨0, _⟩ => ⟨S1x3072x5120, .bf16⟩
  | .hbm, ⟨1, _⟩ => ⟨S5120x7680, .fp8e4m3⟩
  | .hbm, ⟨2, _⟩ => ⟨S7680, .f32⟩
  | .hbm, ⟨3, _⟩ => ⟨S7680, .bf16⟩
  | .hbm, ⟨4, _⟩ => ⟨S1x3072, .i32⟩
  | .hbm, ⟨5, _⟩ => ⟨S3072x5120, .bf16⟩
  | .hbm, ⟨6, _⟩ => ⟨S60x128, .f32⟩
  | .hbm, ⟨7, _⟩ => ⟨S60x128, .bf16⟩
  | .hbm, ⟨8, _⟩ => ⟨S20x3072x128, .bf16⟩
  | .hbm, ⟨9, _⟩ => ⟨S20x3072x128, .bf16⟩
  | .hbm, ⟨10, _⟩ => ⟨S20x3072x128, .bf16⟩
  | .hbm, ⟨11, _⟩ => ⟨S3072x5120, .fp8e4m3⟩
  | .hbm, ⟨12, _⟩ => ⟨S1x3072, .f32⟩
  | .hbm, ⟨13, _⟩ => ⟨S3072x20x128, .bf16⟩
  | .hbm, ⟨14, _⟩ => ⟨S1x3072x20x128, .bf16⟩
  | .hbm, ⟨15, _⟩ => ⟨S3072x20x128, .bf16⟩
  | .hbm, ⟨16, _⟩ => ⟨S1x3072x20x128, .bf16⟩
  | .hbm, ⟨17, _⟩ => ⟨S3072x20x128, .bf16⟩
  | .hbm, ⟨18, _⟩ => ⟨S1x3072x20x128, .bf16⟩
  | .hbm, ⟨19, _⟩ => ⟨S1x3072x5120, .fp8e4m3⟩
  | .hbm, ⟨20, _⟩ => ⟨S1x3072x1, .f32⟩
  | .local _ .vmem, ⟨0, _⟩ => ⟨S256x5120, .bf16⟩
  | .local _ .vmem, ⟨1, _⟩ => ⟨S256x5120, .bf16⟩
  | .local _ .vmem, ⟨2, _⟩ => ⟨S5120x7680, .fp8e4m3⟩
  | .local _ .vmem, ⟨3, _⟩ => ⟨S60x128, .f32⟩
  | .local _ .vmem, ⟨4, _⟩ => ⟨S60x128, .bf16⟩
  | .local _ .vmem, ⟨5, _⟩ => ⟨S1x256, .i32⟩
  | .local _ .vmem, ⟨6, _⟩ => ⟨S1x256, .i32⟩
  | .local _ .vmem, ⟨7, _⟩ => ⟨S20x256x128, .bf16⟩
  | .local _ .vmem, ⟨8, _⟩ => ⟨S20x256x128, .bf16⟩
  | .local _ .vmem, ⟨9, _⟩ => ⟨S20x256x128, .bf16⟩
  | .local _ .vmem, ⟨10, _⟩ => ⟨S20x256x128, .bf16⟩
  | .local _ .vmem, ⟨11, _⟩ => ⟨S20x256x128, .bf16⟩
  | .local _ .vmem, ⟨12, _⟩ => ⟨S20x256x128, .bf16⟩
  | .local _ .vmem, ⟨13, _⟩ => ⟨S256x5120, .fp8e4m3⟩
  | .local _ .vmem, ⟨14, _⟩ => ⟨S256x5120, .fp8e4m3⟩
  | .local _ .vmem, ⟨15, _⟩ => ⟨S1x256, .f32⟩
  | .local _ .vmem, ⟨16, _⟩ => ⟨S1x256, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S60x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S20x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x3072x5120 : Shape := ⟨3, ![1, 3072, 5120]⟩
abbrev S5120x7680 : Shape := ⟨2, ![5120, 7680]⟩
abbrev S7680 : Shape := ⟨1, ![7680]⟩
abbrev S1x3072 : Shape := ⟨2, ![1, 3072]⟩
abbrev S_ : Shape := ⟨0, ![]⟩
abbrev S1x3072x1 : Shape := ⟨3, ![1, 3072, 1]⟩
abbrev S254 : Shape := ⟨1, ![254]⟩
abbrev S1x1x254 : Shape := ⟨3, ![1, 1, 254]⟩
abbrev S1x3072x254 : Shape := ⟨3, ![1, 3072, 254]⟩
abbrev S3072x5120 : Shape := ⟨2, ![3072, 5120]⟩
abbrev S3072x7680 : Shape := ⟨2, ![3072, 7680]⟩
abbrev S1x3072x3x20x128 : Shape := ⟨5, ![1, 3072, 3, 20, 128]⟩
abbrev S1x3072x1x1x1 : Shape := ⟨5, ![1, 3072, 1, 1, 1]⟩
abbrev S3x20x128 : Shape := ⟨3, ![3, 20, 128]⟩
abbrev S1x1x3x20x128 : Shape := ⟨5, ![1, 1, 3, 20, 128]⟩
abbrev S64 : Shape := ⟨1, ![64]⟩
abbrev S1x1x64 : Shape := ⟨3, ![1, 1, 64]⟩
abbrev S1x3072x64 : Shape := ⟨3, ![1, 3072, 64]⟩
abbrev S1x3072x1x64 : Shape := ⟨4, ![1, 3072, 1, 64]⟩
abbrev S1x3072x1x20x128 : Shape := ⟨5, ![1, 3072, 1, 20, 128]⟩
abbrev S1x3072x20x128 : Shape := ⟨4, ![1, 3072, 20, 128]⟩
abbrev S1x3072x20x64 : Shape := ⟨4, ![1, 3072, 20, 64]⟩

abbrev nBuf : Space → Nat
  | .hbm => 125
  | .vmem => 4
  | .smem => 0
  | _ => 0

abbrev bufTy : (tb : Table) → Fin (tcTables nBuf tb) → BufTy
  | .hbm, ⟨0, _⟩ => ⟨S1x3072x5120, .bf16⟩
  | .hbm, ⟨1, _⟩ => ⟨S5120x7680, .fp8e4m3⟩
  | .hbm, ⟨2, _⟩ => ⟨S7680, .f32⟩
  | .hbm, ⟨3, _⟩ => ⟨S7680, .bf16⟩
  | .hbm, ⟨4, _⟩ => ⟨S1x3072, .i32⟩
  | .hbm, ⟨5, _⟩ => ⟨S1x3072x5120, .f32⟩
  | .hbm, ⟨6, _⟩ => ⟨S1x3072x5120, .f32⟩
  | .hbm, ⟨7, _⟩ => ⟨S_, .f32⟩
  | .hbm, ⟨8, _⟩ => ⟨S1x3072, .f32⟩
  | .hbm, ⟨9, _⟩ => ⟨S1x3072x1, .f32⟩
  | .hbm, ⟨10, _⟩ => ⟨S254, .f32⟩
  | .hbm, ⟨11, _⟩ => ⟨S_, .f32⟩
  | .hbm, ⟨12, _⟩ => ⟨S254, .f32⟩
  | .hbm, ⟨13, _⟩ => ⟨S254, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S_, .f32⟩
  | .hbm, ⟨18, _⟩ => ⟨S1x3072x1, .f32⟩
  | .hbm, ⟨19, _⟩ => ⟨S1x3072x1, .f32⟩
  | .hbm, ⟨20, _⟩ => ⟨S1x1x254, .f32⟩
  | .hbm, ⟨21, _⟩ => ⟨S1x3072x254, .f32⟩
  | .hbm, ⟨22, _⟩ => ⟨S1x3072x254, .f32⟩
  | .hbm, ⟨23, _⟩ => ⟨S1x3072x254, .i1⟩
  | .hbm, ⟨24, _⟩ => ⟨S_, .f32⟩
  | .hbm, ⟨25, _⟩ => ⟨S_, .f32⟩
  | .hbm, ⟨26, _⟩ => ⟨S1x3072x254, .f32⟩
  | .hbm, ⟨27, _⟩ => ⟨S1x3072x254, .f32⟩
  | .hbm, ⟨28, _⟩ => ⟨S1x3072x254, .f32⟩
  | .hbm, ⟨29, _⟩ => ⟨S_, .f32⟩
  | .hbm, ⟨30, _⟩ => ⟨S1x3072, .f32⟩
  | .hbm, ⟨31, _⟩ => ⟨S1x3072x1, .f32⟩
  | .hbm, ⟨32, _⟩ => ⟨S_, .f32⟩
  | .hbm, ⟨33, _⟩ => ⟨S1x3072x1, .f32⟩
  | .hbm, ⟨34, _⟩ => ⟨S1x3072x1, .i1⟩
  | .hbm, ⟨35, _⟩ => ⟨S_, .f32⟩
  | .hbm, ⟨36, _⟩ => ⟨S_, .f32⟩
  | .hbm, ⟨37, _⟩ => ⟨S1x3072x1, .f32⟩
  | .hbm, ⟨38, _⟩ => ⟨S1x3072x1, .f32⟩
  | .hbm, ⟨39, _⟩ => ⟨S_, .f32⟩
  | .hbm, ⟨40, _⟩ => ⟨S1x3072x1, .f32⟩
  | .hbm, ⟨41, _⟩ => ⟨S1x3072x1, .f32⟩
  | .hbm, ⟨42, _⟩ => ⟨S1x3072x5120, .f32⟩
  | .hbm, ⟨43, _⟩ => ⟨S1x3072x5120, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x3072x5120, .f32⟩
  | .hbm, ⟨48, _⟩ => ⟨S1x3072x5120, .f32⟩
  | .hbm, ⟨49, _⟩ => ⟨S_, .f32⟩
  | .hbm, ⟨50, _⟩ => ⟨S1x3072x5120, .f32⟩
  | .hbm, ⟨51, _⟩ => ⟨S1x3072x5120, .f32⟩
  | .hbm, ⟨52, _⟩ => ⟨S3072x5120, .f32⟩
  | .hbm, ⟨53, _⟩ => ⟨S3072x5120, .fp8e4m3⟩
  | .hbm, ⟨54, _⟩ => ⟨S3072x7680, .f32⟩
  | .hbm, ⟨55, _⟩ => ⟨S1x3072x3x20x128, .f32⟩
  | .hbm, ⟨56, _⟩ => ⟨S1x3072x1x1x1, .f32⟩
  | .hbm, ⟨57, _⟩ => ⟨S1x3072x3x20x128, .f32⟩
  | .hbm, ⟨58, _⟩ => ⟨S1x3072x3x20x128, .f32⟩
  | .hbm, ⟨59, _⟩ => ⟨S3x20x128, .f32⟩
  | .hbm, ⟨60, _⟩ => ⟨S1x1x3x20x128, .f32⟩
  | .hbm, ⟨61, _⟩ => ⟨S1x3072x3x20x128, .f32⟩
  | .hbm, ⟨62, _⟩ => ⟨S1x3072x3x20x128, .f32⟩
  | .hbm, ⟨63, _⟩ => ⟨S7680, .f32⟩
  | .hbm, ⟨64, _⟩ => ⟨S3x20x128, .f32⟩
  | .hbm, ⟨65, _⟩ => ⟨S1x1x3x20x128, .f32⟩
  | .hbm, ⟨66, _⟩ => ⟨S1x3072x3x20x128, .f32⟩
  | .hbm, ⟨67, _⟩ => ⟨S1x3072x3x20x128, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S1x3072, .f32⟩
  | .hbm, ⟨80, _⟩ => ⟨S1x3072x1, .f32⟩
  | .hbm, ⟨81, _⟩ => ⟨S1x1x64, .f32⟩
  | .hbm, ⟨82, _⟩ => ⟨S1x3072x64, .f32⟩
  | .hbm, ⟨83, _⟩ => ⟨S1x3072x64, .f32⟩
  | .hbm, ⟨84, _⟩ => ⟨S1x3072x64, .f32⟩
  | .hbm, ⟨85, _⟩ => ⟨S1x3072x64, .f32⟩
  | .hbm, ⟨86, _⟩ => ⟨S1x3072x1x64, .f32⟩
  | .hbm, ⟨87, _⟩ => ⟨S1x3072x64, .f32⟩
  | .hbm, ⟨88, _⟩ => ⟨S1x3072x1x64, .f32⟩
  | .hbm, ⟨89, _⟩ => ⟨S1x3072x1x20x128, .f32⟩
  | .hbm, ⟨90, _⟩ => ⟨S1x3072x20x128, .f32⟩
  | .hbm, ⟨91, _⟩ => ⟨S1x3072x20x64, .f32⟩
  | .hbm, ⟨92, _⟩ => ⟨S1x3072x20x64, .f32⟩
  | .hbm, ⟨93, _⟩ => ⟨S1x3072x20x64, .f32⟩
  | .hbm, ⟨94, _⟩ => ⟨S1x3072x20x64, .f32⟩
  | .hbm, ⟨95, _⟩ => ⟨S1x3072x20x64, .f32⟩
  | .hbm, ⟨96, _⟩ => ⟨S1x3072x20x64, .f32⟩
  | .hbm, ⟨97, _⟩ => ⟨S1x3072x20x64, .f32⟩
  | .hbm, ⟨98, _⟩ => ⟨S1x3072x20x64, .f32⟩
  | .hbm, ⟨99, _⟩ => ⟨S1x3072x20x64, .f32⟩
  | .hbm, ⟨100, _⟩ => ⟨S1x3072x20x64, .f32⟩
  | .hbm, ⟨101, _⟩ => ⟨S1x3072x20x64, .f32⟩
  | .hbm, ⟨102, _⟩ => ⟨S1x3072x20x64, .f32⟩
  | .hbm, ⟨103, _⟩ => ⟨S1x3072x20x128, .f32⟩
  | .hbm, ⟨104, _⟩ => ⟨S1x3072x1x20x128, .f32⟩
  | .hbm, ⟨105, _⟩ => ⟨S1x3072x20x128, .f32⟩
  | .hbm, ⟨106, _⟩ => ⟨S1x3072x20x64, .f32⟩
  | .hbm, ⟨107, _⟩ => ⟨S1x3072x20x64, .f32⟩
  | .hbm, ⟨108, _⟩ => ⟨S1x3072x20x64, .f32⟩
  | .hbm, ⟨109, _⟩ => ⟨S1x3072x20x64, .f32⟩
  | .hbm, ⟨110, _⟩ => ⟨S1x3072x20x64, .f32⟩
  | .hbm, ⟨111, _⟩ => ⟨S1x3072x20x64, .f32⟩
  | .hbm, ⟨112, _⟩ => ⟨S1x3072x20x64, .f32⟩
  | .hbm, ⟨113, _⟩ => ⟨S1x3072x20x64, .f32⟩
  | .hbm, ⟨114, _⟩ => ⟨S1x3072x20x64, .f32⟩
  | .hbm, ⟨115, _⟩ => ⟨S1x3072x20x64, .f32⟩
  | .hbm, ⟨116, _⟩ => ⟨S1x3072x20x64, .f32⟩
  | .hbm, ⟨117, _⟩ => ⟨S1x3072x20x64, .f32⟩
  | .hbm, ⟨118, _⟩ => ⟨S1x3072x20x128, .f32⟩
  | .hbm, ⟨119, _⟩ => ⟨S1x3072x1x20x128, .f32⟩
  | .hbm, ⟨120, _⟩ => ⟨S1x3072x20x128, .f32⟩
  | .hbm, ⟨121, _⟩ => ⟨S1x3072x20x128, .bf16⟩
  | .hbm, ⟨122, _⟩ => ⟨S1x3072x20x128, .bf16⟩
  | .hbm, ⟨123, _⟩ => ⟨S1x3072x20x128, .bf16⟩
  | .hbm, ⟨124, _⟩ => ⟨S1x3072x5120, .fp8e4m3⟩
  | .local _ .vmem, ⟨0, _⟩ => ⟨S3072x5120, .f32⟩
  | .local _ .vmem, ⟨1, _⟩ => ⟨S5120x7680, .fp8e4m3⟩
  | .local _ .vmem, ⟨2, _⟩ => ⟨S3072x5120, .fp8e4m3⟩
  | .local _ .vmem, ⟨3, _⟩ => ⟨S3072x7680, .f32⟩
  | _, _ => ⟨S1x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Scalar.lean ====
module

public import Idealize.ShloMosaic.Lib.Claim
public import Idealize.ShloMosaic.Lib.Pipeline.ValueKit

@[expose] public section

set_option maxRecDepth 16384

noncomputable section

namespace Cert.Value

open Idealize.ShloMosaic

/-- The extended real whose 32-bit float pattern has exponent field `f` and nothing else set. -/
def fl (f : BitVec 32) : EReal := Ideal.ieee 8 23 (IntOp.shli .vector f 23#32)

/-- One step of the search: add `s` to the field while the float read there stays at or below `z`. -/
def step (s : BitVec 32) (z : EReal) (f : BitVec 32) : BitVec 32 :=
  Scalar.select (Ideal.cmp .oge z (fl (f + s))) (f + s) f

/-- The field the eight steps find. -/
def field (z : EReal) : BitVec 32 :=
  step 1#32 z <| step 2#32 z <| step 4#32 z <| step 8#32 z <| step 16#32 z <| step 32#32 z <| step 64#32 z <|
    step 128#32 z 0#32

/-- The exponent of the scale: zero for a field of zero or 255, the field less 126 otherwise. -/
def expo (z : EReal) : BitVec 32 :=
  Scalar.select (IntOp.cmpi .eq (field z) 0#32 ||| IntOp.cmpi .eq (field z) 255#32) 0#32 (field z - 126#32)

/-- The scale: the float with field `127 + expo`. -/
def scaleOf (z : EReal) : EReal := fl (127#32 + expo z)
/-- Its inverse: the float with field `127 - expo`. -/
def invOf (z : EReal) : EReal := fl (127#32 - expo z)

/-- The three parts of the pattern with exponent field `n`, for every `n` below 256. -/
theorem parts : ∀ n : Fin 256,
    ((IntOp.shli .vector (BitVec.ofNat 32 n.val) 23#32).extractLsb' 31 1 = 0#1) ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

/-- A field from 1 to 254 denotes the power of two with that exponent less 127. -/
theorem fl_pow {n : ℕ} (h1 : 1 ≤ n) (h2 : n ≤ 254) :
    fl (BitVec.ofNat 32 n) = (((2 : ℝ) ^ ((n : ℤ) - 127) : ℝ) : EReal) := by
  obtain ⟨hs, he, hf⟩ := parts ⟨n, by omega⟩
  unfold fl
  generalize IntOp.shli .vector (BitVec.ofNat 32 n) 23#32 = b at hs he hf
  unfold Ideal.ieee
  simp only [Nat.reduceAdd, hs, he, hf]
  rw [if_neg (by omega), if_neg (by omega)]
  congr 1
  rw [if_neg (by decide), one_mul, Nat.add_zero, Nat.cast_pow, Nat.cast_ofNat, ← zpow_natCast, ← zpow_add₀ (by norm_num)]
  congr 1
  push_cast
  ring

/-- Field 255 denotes positive infinity. -/
theorem fl_top : fl (BitVec.ofNat 32 255) = ⊤ := by
  obtain ⟨hs, he, hf⟩ := parts ⟨255, by omega⟩
  unfold fl
  generalize IntOp.shli .vector (BitVec.ofNat 32 255) 23#32 = b at hs he hf
  simp [Ideal.ieee, hs, he, hf]

/-- What holds of the field `n` while the steps still to come add less than `w`. -/
def Inv (n w : ℕ) (z : EReal) : Prop :=
  n + w ≤ 256 ∧ (n = 0 ∨ (((2 : ℝ) ^ ((n : ℤ) - 127) : ℝ) : EReal) ≤ z) ∧ z < (((2 : ℝ) ^ ((n : ℤ) + w - 127) : ℝ) : EReal)

/-- A step halves the interval. -/
theorem step_inv {n s : ℕ} {z : EReal} (hs : 1 ≤ s) (hz : z < (((2 : ℝ) ^ (128 : ℤ) : ℝ) : EReal)) (h : Inv n (2 * s) z) :
    ∃ n', step (BitVec.ofNat 32 s) z (BitVec.ofNat 32 n) = BitVec.ofNat 32 n' ∧ Inv n' s z := by
  obtain ⟨hw, hlo, hhi⟩ := h
  unfold step
  rw [← BitVec.ofNat_add]
  by_cases hc : fl (BitVec.ofNat 32 (n + s)) ≤ z
  · refine ⟨n + s, ?_, by omega, Or.inr ?_, ?_⟩
    · simp [Scalar.select, Ideal.cmp, hc]
    · by_cases h255 : n + s = 255
      · rw [h255, fl_top] at hc
        exact absurd (lt_of_lt_of_le (lt_of_le_of_lt hc hz) le_top) (lt_irrefl _)
      · rw [fl_pow (by omega) (by omega)] at hc
        exact_mod_cast hc
    · rwa [show ((n + s : ℕ) : ℤ) + s - 127 = n + ((2 * s : ℕ) : ℤ) - 127 by omega]
  · refine ⟨n, ?_, by omega, hlo, ?_⟩
    · simp [Scalar.select, Ideal.cmp, hc]
    · by_cases h255 : n + s = 255
      · rwa [show (n : ℤ) + s - 127 = 128 by omega]
      · rw [fl_pow (by omega) (by omega)] at hc
        simpa using hc

/-- The field found for a `z` below `2 ^ 128`. -/
theorem field_spec {z : EReal} (hz : z < (((2 : ℝ) ^ (128 : ℤ) : ℝ) : EReal)) : ∃ n, field z = BitVec.ofNat 32 n ∧ Inv n 1 z := by
  have h0 : Inv 0 (2 * 128) z := ⟨by omega, Or.inl rfl, lt_trans hz (by
    exact EReal.coe_lt_coe_iff.mpr (zpow_lt_zpow_right₀ (by norm_num : (1 : ℝ) < 2) (by norm_num)))⟩
  obtain ⟨n1, e1, h1⟩ := step_inv (by omega) hz h0
  obtain ⟨n2, e2, h2⟩ := step_inv (s := 64) (by omega) hz h1
  obtain ⟨n3, e3, h3⟩ := step_inv (s := 32) (by omega) hz h2
  obtain ⟨n4, e4, h4⟩ := step_inv (s := 16) (by omega) hz h3
  obtain ⟨n5, e5, h5⟩ := step_inv (s := 8) (by omega) hz h4
  obtain ⟨n6, e6, h6⟩ := step_inv (s := 4) (by omega) hz h5
  obtain ⟨n7, e7, h7⟩ := step_inv (s := 2) (by omega) hz h6
  obtain ⟨n8, e8, h8⟩ := step_inv (s := 1) (by omega) hz h7
  refine ⟨n8, ?_, h8⟩
  unfold field
  rw [e1, e2, e3, e4, e5, e6, e7, e8]

/-- For a normal `z` the scale is the least power of two above `z`, and the inverse is its reciprocal. -/
theorem scale_spec {z : EReal} (h1 : (((2 : ℝ) ^ (-126 : ℤ) : ℝ) : EReal) ≤ z) (h2 : z < (((2 : ℝ) ^ (126 : ℤ) : ℝ) : EReal)) :
    ∃ k : ℤ, -125 ≤ k ∧ k ≤ 126 ∧ scaleOf z = (((2 : ℝ) ^ k : ℝ) : EReal) ∧ invOf z = (((2 : ℝ) ^ (-k) : ℝ) : EReal) ∧
      (((2 : ℝ) ^ (k - 1) : ℝ) : EReal) ≤ z ∧ z < (((2 : ℝ) ^ k : ℝ) : EReal) := by
  obtain ⟨n, hf, -, hlo, hhi⟩ := field_spec (lt_trans h2 (by
    exact EReal.coe_lt_coe_iff.mpr (zpow_lt_zpow_right₀ (by norm_num : (1 : ℝ) < 2) (by norm_num))))
  have hn0 : n ≠ 0 := by
    rintro rfl
    refine absurd (lt_of_le_of_lt h1 hhi) (not_lt.mpr ?_)
    norm_num
  have hlo' := hlo.resolve_left hn0
  have hn : n ≤ 252 := by
    by_contra hcon
    have := lt_of_le_of_lt hlo' h2
    have := EReal.coe_lt_coe_iff.mp this
    have := (zpow_lt_zpow_iff_right₀ (by norm_num : (1 : ℝ) < 2)).mp this
    omega
  have he : expo z = BitVec.ofNat 32 n - 126#32 := by
    unfold expo
    rw [hf]
    have a0 : IntOp.cmpi .eq (BitVec.ofNat 32 n) 0#32 = 0#1 := by
      have : ¬ (BitVec.ofNat 32 n = 0#32) := fun h => by
        have := congrArg BitVec.toNat h; simp at this; omega
      simp only [IntOp.cmpi, beq_eq_false_iff_ne.mpr this]; rfl
    have a1 : IntOp.cmpi .eq (BitVec.ofNat 32 n) 255#32 = 0#1 := by
      have : ¬ (BitVec.ofNat 32 n = 255#32) := fun h => by
        have := congrArg BitVec.toNat h; simp at this; omega
      simp only [IntOp.cmpi, beq_eq_false_iff_ne.mpr this]; rfl
    rw [a0, a1]
    simp [Scalar.select]
  refine ⟨(n : ℤ) - 126, by omega, by omega, ?_, ?_, ?_, ?_⟩
  · unfold scaleOf
    rw [he, show 127#32 + (BitVec.ofNat 32 n - 126#32) = BitVec.ofNat 32 (n + 1) from by
      apply BitVec.eq_of_toNat_eq; simp; omega, fl_pow (by omega) (by omega)]
    congr 2; push_cast; ring
  · unfold invOf
    rw [he, show 127#32 - (BitVec.ofNat 32 n - 126#32) = BitVec.ofNat 32 (253 - n) from by
      apply BitVec.eq_of_toNat_eq; simp; omega, fl_pow (by omega) (by omega)]
    congr 2; push_cast [Nat.cast_sub (show n ≤ 253 by omega)]; ring
  · rwa [show (n : ℤ) - 126 - 1 = n - 127 by omega]
  · rwa [show (n : ℤ) - 126 = n + ((1 : ℕ) : ℤ) - 127 by omega]

/-- For zero the scale and its inverse are one. -/
theorem scale_zero : scaleOf 0 = 1 ∧ invOf 0 = 1 := by
  obtain ⟨n, hf, -, hlo, hhi⟩ := field_spec (z := 0) (by exact_mod_cast (by positivity : (0 : ℝ) < 2 ^ (128 : ℤ)))
  have hn : n = 0 := by
    refine hlo.resolve_right (not_le.mpr ?_)
    exact_mod_cast (by positivity : (0 : ℝ) < 2 ^ ((n : ℤ) - 127))
  subst hn
  have he : expo 0 = 0#32 := by
    unfold expo
    rw [hf]
    decide
  have h1 : fl (BitVec.ofNat 32 127) = 1 := by
    rw [fl_pow (by omega) (by omega)]; norm_num
  unfold scaleOf invOf
  rw [he]
  exact ⟨h1, h1⟩

end Cert.Value

end
-- ==== Proof.Scale.lean ====
module

public import proofs.«01_k».proof.Proof.Gen.KernelIdeal.Frame
public import proofs.«01_k».proof.Proof.Scalar

@[expose] public section

set_option maxRecDepth 16384

noncomputable section

namespace Cert.Value

open Idealize.ShloMosaic

/-- The largest magnitude of a row. -/
def amax (row : Fin 5120 → EReal) : EReal :=
  Finset.univ.fold max (Ideal.ofBits .f32 0xFF800000#32) fun k => max (row k) (-row k)

/-- The largest magnitude of a row over 448. -/
def zOf (row : Fin 5120 → EReal) : EReal := amax row * Ideal.ofBits .f32 0x3B124925#32

/-- The code of the element `e` of a row: times the inverse scale, clipped to 448 in magnitude. -/
def codeOf (row : Fin 5120 → EReal) (e : EReal) : EReal :=
  min (Ideal.ofBits .f32 0x43E00000#32) (max (Ideal.ofBits .f32 0xC3E00000#32) (e * invOf (zOf row)))

end Cert.Value

namespace Cert.KernelIdeal.Value

open Idealize.ShloMosaic Idealize.ShloMosaic.TcCoe Idealize.SL.Sem
open Cert.KernelIdeal Cert.KernelIdeal.Gen Cert.Value

/-- Row `r` of a block of `x`. -/
abbrev rowOf (x : Vec Ideal S256x5120 .bf16) (r : Fin 256) : Fin 5120 → EReal := fun k => x (ix2 r k)

/-! ## The scale and its inverse -/

/-- The reduction of a block along its rows is a maximum over the row's elements. -/
theorem red_at (v : FVec Ideal S256x5120 .bf16) (y : S256.Idx) :
    (multiReduction .maximumf [1] S256 v 0xFF80#16 reduces_S256x5120_S256 (.inr rfl) rfl : FVec Ideal S256 .bf16) y =
      Finset.univ.fold max (Ideal.ofBits .bf16 0xFF80#16) fun k => v (ix2 (y 0) k) := by
  pointwise

/-- Negative infinity is the same extended real in both formats. -/
theorem ninf : Ideal.ofBits .bf16 0xFF80#16 = Ideal.ofBits .f32 0xFF800000#32 := by
  simp [Ideal.ofBits, Ideal.ieee]

/-- A value per row, spread over the lanes and multiplied by the reciprocal of 448. -/
theorem pay2_core (v3 : FVec Ideal S256 .bf16) (y : S256x128.Idx) :
    mulf (F := Ideal) (broadcastTo S256x128 (shapeCast S256x1 (extf .f32 (shapeCast S256x1 v3 shapeCasts_S256_S256x1) bitsLt_bf16_f32) shapeCasts_S256x1_S256x1)
      broadcasts_S256x1_S256x128) (broadcast S256x128 (Scalar.ofBits .f32 0x3B124925#32)) y = v3 (ix1 (y 0)) * Ideal.ofBits .f32 0x3B124925#32 := by
  pointwise

/-- A magnitude at an index. -/
theorem abs_at (x : FVec Ideal S256x5120 .bf16) (y : S256x5120.Idx) :
    absf (F := Ideal) (shapeCast S256x5120 x shapeCasts_S256x5120_S256x5120) y = max (x y) (-x y) := by
  pointwise
  rfl

/-- The kernel's scaled row maximum at an index. -/
theorem pay2_at (x : Vec Ideal S256x5120 .bf16) (y : S256x128.Idx) : k0_pay2 (F := Ideal) x y = zOf (rowOf x (y 0)) := by
  have h := (pay2_core (multiReduction .maximumf [1] S256 (absf (F := Ideal) (shapeCast S256x5120 x shapeCasts_S256x5120_S256x5120)) 0xFF80#16 reduces_S256x5120_S256 (.inr rfl) rfl) y).trans
    (congrArg (· * Ideal.ofBits .f32 0x3B124925#32) (red_at (absf (shapeCast S256x5120 x shapeCasts_S256x5120_S256x5120)) (ix1 (y 0))))
  unfold zOf amax
  rw [← ninf]
  unfold k0_pay2
  refine h.trans (congrArg (· * Ideal.ofBits .f32 0x3B124925#32) (congrArg (Finset.univ.fold max _) ?_))
  funext k
  exact abs_at _ _

variable (x : Vec Ideal S256x5120 .bf16)

/-- One step of the search on a block of values. -/
def vstep (s : BitVec 32) (z : FVec Ideal S256x128 .f32) (f : IVec S256x128 32) : IVec S256x128 32 :=
  select (cmpf .oge z (bitcastToFloat .f32 (shli (addi f (broadcast S256x128 s)) (broadcast S256x128 23#32))))
    (addi f (broadcast S256x128 s)) f

/-- A step on a block is the step at each index. -/
theorem vstep_at (s : BitVec 32) (z : FVec Ideal S256x128 .f32) (f : IVec S256x128 32) (y : S256x128.Idx) :
    vstep s z f y = step s (z y) (f y) := rfl

/-- The search's first four steps. -/
theorem pay3_eq : k0_pay3 (F := Ideal) x =
    vstep 16#32 (k0_pay2 x) (vstep 32#32 (k0_pay2 x) (vstep 64#32 (k0_pay2 x) (vstep 128#32 (k0_pay2 x) (broadcast S256x128 0#32)))) := rfl

/-- The search's last four steps, and the exponent made of what they find. -/
theorem pay6_eq (z : FVec Ideal S256x128 .f32) (f : IVec S256x128 32) :
    k0_pay6 (F := Ideal) z f (addi f (broadcast S256x128 8#32)) (bitcastToFloat .f32 (shli (addi f (broadcast S256x128 8#32)) (broadcast S256x128 23#32)))
      = let g := vstep 1#32 z (vstep 2#32 z (vstep 4#32 z (vstep 8#32 z f)))
        select (ori (cmpi .eq g (broadcast S256x128 0#32)) (cmpi .eq g (broadcast S256x128 255#32))) (broadcast S256x128 0#32)
          (subi g (broadcast S256x128 126#32)) := rfl

/-- The exponent made of a field, at an index. -/
theorem expo_core (g : IVec S256x128 32) (y : S256x128.Idx) :
    select (ori (cmpi .eq g (broadcast S256x128 0#32)) (cmpi .eq g (broadcast S256x128 255#32))) (broadcast S256x128 0#32)
        (subi g (broadcast S256x128 126#32)) y
      = Scalar.select (IntOp.cmpi .eq (g y) 0#32 ||| IntOp.cmpi .eq (g y) 255#32) 0#32 (g y - 126#32) := rfl

/-- The float with field 127 and an exponent, at an index. -/
theorem up_core (e : IVec S256x128 32) (y : S256x128.Idx) :
    (bitcastToFloat .f32 (shli (addi (broadcast S256x128 127#32) e) (broadcast S256x128 23#32)) : FVec Ideal S256x128 .f32) y = fl (127#32 + e y) := rfl

/-- The float with field 127 less an exponent, at an index. -/
theorem down_core (e : IVec S256x128 32) (y : S256x128.Idx) :
    (bitcastToFloat .f32 (shli (subi (broadcast S256x128 127#32) e) (broadcast S256x128 23#32)) : FVec Ideal S256x128 .f32) y = fl (127#32 - e y) := rfl

/-- The exponent at an index. -/
theorem pay6_at (y : S256x128.Idx) : k0_pay6 (F := Ideal) (k0_pay2 x) (k0_pay3 x) (k0_pay4 x) (k0_pay5 x) y = expo (k0_pay2 (F := Ideal) x y) := by
  have h := congrFun (pay6_eq (k0_pay2 x) (k0_pay3 x)) y
  refine h.trans ((expo_core _ y).trans ?_)
  have hg : (vstep 1#32 (k0_pay2 x) (vstep 2#32 (k0_pay2 x) (vstep 4#32 (k0_pay2 x) (vstep 8#32 (k0_pay2 x) (k0_pay3 (F := Ideal) x))))) y
      = field (k0_pay2 (F := Ideal) x y) := by
    rw [pay3_eq]
    simp only [vstep_at, field]
    rfl
  unfold expo
  rw [hg]

/-- The kernel's scale at an index. -/
theorem pay7_at (y : S256x128.Idx) :
    k0_pay7 (F := Ideal) (k0_pay2 x) (k0_pay3 x) (k0_pay4 x) (k0_pay5 x) y = scaleOf (zOf (rowOf x (y 0))) := by
  unfold scaleOf k0_pay7
  rw [← pay2_at, ← pay6_at]
  exact up_core _ y

/-- The kernel's inverse scale at an index. -/
theorem pay8_at (y : S256x128.Idx) :
    k0_pay8 (F := Ideal) (k0_pay2 x) (k0_pay3 x) (k0_pay4 x) (k0_pay5 x) y = invOf (zOf (rowOf x (y 0))) := by
  unfold invOf k0_pay8
  rw [← pay2_at, ← pay6_at]
  exact down_core _ y

/-- The row of scales the kernel stores. -/
theorem pay9_at (y : S1x256.Idx) :
    k0_pay9 (F := Ideal) (k0_pay2 x) (k0_pay3 x) (k0_pay4 x) (k0_pay5 x) y = scaleOf (zOf (rowOf x (y 1))) := by
  pointwise [k0_pay9]
  exact pay7_at x _

end Cert.KernelIdeal.Value

end
-- ==== Proof.Heads.lean ====
module

public import proofs.«01_k».proof.Proof.Gen.KernelIdeal.Frame
public import proofs.«01_k».proof.Proof.Scale

@[expose] public section

set_option maxRecDepth 16384

noncomputable section

namespace Cert.Value

open Idealize.ShloMosaic

/-- The bits of zero. -/
theorem zero_bits : Ideal.ofBits .f32 0x00000000#32 = 0 := by
  simp [Ideal.ofBits, Ideal.ieee]

/-- The angle of a position at a frequency's number: the position times a million to the power of minus twice the number
    over 128. -/
def ang (p b : BitVec 32) : EReal :=
  FloatOps.sitofp (F := Ideal) .f32 p * Ideal.pow (Ideal.ofBits .f32 0x49742400#32)
    (Ideal.div (0 - Ideal.ofBits .f32 0x40000000#32 * FloatOps.sitofp (F := Ideal) .f32 b) (Ideal.ofBits .f32 0x43000000#32))

/-- The sine a lane is turned by, negated in the lower half. -/
def ssin (p : BitVec 32) (l : Fin 128) : EReal :=
  if l.val < 64 then 0 - Ideal.sin (ang p (BitVec.ofNat 32 (l.val % 64))) else Ideal.sin (ang p (BitVec.ofNat 32 (l.val % 64)))

end Cert.Value

namespace Cert.KernelIdeal.Value

open Idealize.ShloMosaic Idealize.ShloMosaic.TcCoe Idealize.SL.Sem
open Cert.KernelIdeal Cert.KernelIdeal.Gen Cert.Value

/-! ## The heads -/

/-- A head's affine part: the tile at lane offset `o`, times the row scale and the column scale, plus the bias. -/
def yK (o : Nat) (hs : S256x512.Slices ![0, o] S256x128) (acc : FVec Ideal S256x512 .f32) (sc : FVec Ideal S256x128 .f32)
    (ws : Vec Ideal S1x128 .f32) (b : Vec Ideal S1x128 .bf16) : FVec Ideal S256x128 .f32 :=
  addf (mulf (mulf (extractStridedSlice S256x128 ![0, o] acc hs) sc) (broadcastTo S256x128 (shapeCast S1x128 ws shapeCasts_S1x128_S1x128) broadcasts_S1x128_S256x128))
    (broadcastTo S256x128 (extf .f32 (shapeCast S1x128 b shapeCasts_S1x128_S1x128) bitsLt_bf16_f32) broadcasts_S1x128_S256x128)

/-- A head as stored, not turned. -/
def plainK (y : FVec Ideal S256x128 .f32) : FVec Ideal S1x256x128 .bf16 :=
  shapeCast S1x256x128 (truncf .bf16 y bitsLt_bf16_f32) shapeCasts_S256x128_S1x256x128

/-- A head as stored, turned by an angle's cosine and signed sine. -/
def ropeK (co si y : FVec Ideal S256x128 .f32) : FVec Ideal S1x256x128 .bf16 :=
  plainK (addf (mulf y co) (mulf (dynamicRotate 1 64#32 none y rotates_S256x128_d1) si))

/-- The affine part at an index. -/
theorem yK_at (o : Nat) (ho : o + 128 ≤ 512) (hs : S256x512.Slices ![0, o] S256x128) (acc : FVec Ideal S256x512 .f32) (sc : FVec Ideal S256x128 .f32)
    (ws : Vec Ideal S1x128 .f32) (b : Vec Ideal S1x128 .bf16) (y : S256x128.Idx) :
    yK o hs acc sc ws b y = acc (ix2 (y 0) ⟨o + (y 1).val, by have := (y 1).isLt; simp at this; omega⟩) * sc y * ws (ix2 0 (y 1)) + b (ix2 0 (y 1)) := by
  pointwise [yK]

/-- A stored head at an index. -/
theorem plainK_at (v : FVec Ideal S256x128 .f32) (y : S1x256x128.Idx) : plainK v y = v (ix2 (y 1) (y 2)) := by
  pointwise [plainK]

/-- A turned head at an index: the lane, and the lane half a head away. -/
theorem ropeK_at (co si v : FVec Ideal S256x128 .f32) (y : S1x256x128.Idx) :
    ropeK co si v y = v (ix2 (y 1) (y 2)) * co (ix2 (y 1) (y 2)) + v (ix2 (y 1) ⟨((y 2).val + 64) % 128, Nat.mod_lt _ (by norm_num)⟩) * si (ix2 (y 1) (y 2)) := by
  refine (plainK_at _ y).trans ?_
  pointwise
  simp only [show (y 2).val + 128 - 64 = (y 2).val + 64 by omega]

/-- A panel of the product at an index. -/
theorem dot_at (c : Vec Ideal S256x5120 .fp8e4m3) (w : Vec Ideal S5120x512 .fp8e4m3) (y : S256x512.Idx) :
    k0_pay64 (F := Ideal) c w y = ∑ k : Fin 5120, c (ix2 (y 0) k) * w (ix2 k (y 1)) := by
  pointwise [k0_pay64]

/-- The lane within its half, as the kernel computes it from the lane. -/
def laneK (b : BitVec 32) : BitVec 32 :=
  Scalar.select
    (IntOp.andi
      (IntOp.xori (IntOp.cmpi .slt (IntOp.remsi .vector b (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector b (Scalar.select (Scalar.cmpi .eq 64#32 0#32) 1#32 64#32)) 0#32))
    (IntOp.addi (IntOp.remsi .vector b (Scalar.select (Scalar.cmpi .eq 64#32 0#32) 1#32 64#32)) 64#32)
    (IntOp.remsi .vector b (Scalar.select (Scalar.cmpi .eq 64#32 0#32) 1#32 64#32))

/-- It is the lane's remainder by 64. -/
theorem laneK_eq : ∀ l : Fin 128, laneK (BitVec.ofNat 32 l.val) = BitVec.ofNat 32 (l.val % 64) := by decide +kernel

/-- The lower half of the lanes, as the kernel tells it. -/
theorem lower_eq : ∀ l : Fin 128, IntOp.cmpi .slt (BitVec.ofNat 32 l.val) 64#32 = if l.val < 64 then 1#1 else 0#1 := by decide +kernel

/-- The cosine the kernel turns by. -/
theorem pay62_at (p : Vec Ideal S1x256 .i32) (y : S256x128.Idx) :
    k0_pay62 (F := Ideal) 64#32 k0_pay57 k0_pay58 k0_pay59 k0_pay60 p y
      = Ideal.cos (ang (p (ix2 0 (y 0))) (BitVec.ofNat 32 ((y 1).val % 64))) := by
  pointwise [k0_pay62, k0_pay61, k0_pay57, k0_pay58, k0_pay59, k0_pay60]
  rw [← laneK_eq (y 1)]
  unfold ang
  rw [← zero_bits]
  rfl

/-- The signed sine the kernel turns by. -/
theorem pay63_at (p : Vec Ideal S1x256 .i32) (y : S256x128.Idx) :
    k0_pay63 (F := Ideal) (iota .tc S1x128 32 [1] iota_S1x128_d1_w32) 64#32 k0_pay57 k0_pay58 k0_pay59 k0_pay60 p y
      = ssin (p (ix2 0 (y 0))) (y 1) := by
  have h : k0_pay63 (F := Ideal) (iota .tc S1x128 32 [1] iota_S1x128_d1_w32) 64#32 k0_pay57 k0_pay58 k0_pay59 k0_pay60 p y
      = Scalar.select (IntOp.cmpi .slt (BitVec.ofNat 32 (y 1).val) 64#32) (0 - Ideal.sin (ang (p (ix2 0 (y 0))) (laneK (BitVec.ofNat 32 (y 1).val))))
          (Ideal.sin (ang (p (ix2 0 (y 0))) (laneK (BitVec.ofNat 32 (y 1).val)))) := by
    pointwise [k0_pay63, k0_pay61, k0_pay57, k0_pay58, k0_pay59, k0_pay60]
    unfold ang
    rw [← zero_bits]
    rfl
  rw [h, laneK_eq (y 1), lower_eq (y 1)]
  unfold ssin
  split_ifs <;> rfl

end Cert.KernelIdeal.Value

end
-- ==== Proof.Blocks.lean ====
module

public import proofs.«01_k».proof.Proof.Gen.KernelIdeal.Frame
import all proofs.«01_k».proof.Proof.Gen.KernelIdeal.Frame.RunA
public import proofs.«01_k».proof.Proof.Heads

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

/-! ## The codes -/

/-- The clip bounds are the same extended reals in both formats. -/
theorem hi448 : Ideal.ofBits .bf16 0x43E0#16 = Ideal.ofBits .f32 0x43E00000#32 := by
  simp [Ideal.ofBits, Ideal.ieee]
  norm_cast
  norm_num

/-- The clip bounds are the same extended reals in both formats. -/
theorem lo448 : Ideal.ofBits .bf16 0xC3E0#16 = Ideal.ofBits .f32 0xC3E00000#32 := by
  simp [Ideal.ofBits, Ideal.ieee]
  norm_cast
  norm_num

/-- A chunk of 128 lanes quantised, at an index. -/
theorem chunk_core (inv16 : FVec Ideal S256x128 .bf16) (v : Vec Ideal S256x128 .bf16) (y : S256x128.Idx) :
    k0_pay16 (F := Ideal) inv16 v y = min (Ideal.ofBits .f32 0x43E00000#32) (max (Ideal.ofBits .f32 0xC3E00000#32) (v y * inv16 y)) := by
  rw [← hi448, ← lo448]
  pointwise [k0_pay16]

/-- The codes of a block of `x`. -/
def codeG (x : Vec Ideal S256x5120 .bf16) (y : S256x5120.Idx) : EReal := codeOf (rowOf x (y 0)) (x y)

/-- A payload that is a chunk at a lane offset, quantised, holds the codes there. -/
theorem chunk_at (arg1 : Memref sig .tc .vmem S256x5120 .bf16) (harg1 : arg1.IsWhole) (x0 : Vec Ideal S256x5120 .bf16)
    (I : FVec Ideal S256x128 .f32) (hI : ∀ y : S256x128.Idx, I y = invOf (zOf (rowOf x0 (y 0)))) (o : Nat)
    (inb : ∀ a, (![0, o] : Fin 2 → Nat) a + S256x128.size a ≤ S256x5120.size a)
    (V : FVec Ideal S256x128 .fp8e4m3)
    (hV : V = k0_pay16 (k0_pay10 I) (View.readAt (Elt Ideal) arg1.view (Rect.unit (s := S256x5120) ![0, o] S256x128.size inb).toLoadRect (harg1.unread x0)))
    (x : (Rect.unit (s := S256x5120) ![0, o] S256x128.size inb).shape.Idx) :
    V x = codeG x0 ((Rect.unit (s := S256x5120) ![0, o] S256x128.size inb).emb x) := by
  subst hV
  refine (chunk_core _ _ x).trans ?_
  rw [View.readAt_eq_ld, harg1.read_unread]
  unfold codeG codeOf
  have h0 : (Rect.unit (s := S256x5120) ![0, o] S256x128.size inb).emb x 0 = x 0 := Fin.ext (by simp)
  have h1 : k0_pay10 (F := Ideal) I x = I x := rfl
  rw [h0, h1, hI]
  rfl

section
variable (c : Dev nD) (i : grid0.Coords) (arg1 : Memref sig .tc .vmem S256x5120 .bf16) (harg1 : arg1.IsWhole) (arg2 : Memref sig .tc .vmem S5120x7680 .fp8e4m3) (harg2 : arg2.IsWhole) (arg3 : Memref sig .tc .vmem S60x128 .f32) (harg3 : arg3.IsWhole) (arg4 : Memref sig .tc .vmem S60x128 .bf16) (harg4 : arg4.IsWhole) (arg5 : Memref sig .tc .vmem S1x256 .i32) (harg5 : arg5.IsWhole) (arg6 : Memref sig .tc .vmem S20x256x128 .bf16) (harg6 : arg6.IsWhole) (arg7 : Memref sig .tc .vmem S20x256x128 .bf16) (harg7 : arg7.IsWhole) (arg8 : Memref sig .tc .vmem S20x256x128 .bf16) (harg8 : arg8.IsWhole) (arg9 : Memref sig .tc .vmem S256x5120 .fp8e4m3) (harg9 : arg9.IsWhole) (arg10 : Memref sig .tc .vmem S1x256 .f32) (harg10 : arg10.IsWhole)
    (x0 : Vec Ideal S256x5120 .bf16) (x1 : Vec Ideal S5120x7680 .fp8e4m3) (x2 : Vec Ideal S60x128 .f32) (x3 : Vec Ideal S60x128 .bf16) (x4 : Vec Ideal S1x256 .i32)

/-- The row of scales one point leaves. -/
theorem out9 (y : S1x256.Idx) : out0_A_9 c i arg1 harg1 arg2 harg2 arg3 harg3 arg4 harg4 arg5 harg5 arg6 harg6 arg7 harg7 arg8 harg8 arg9 harg9 arg10 harg10 x0 x1 x2 x3 x4 y = scaleOf (zOf (rowOf x0 (y 1))) := by
  frame_out
  exact pay9_at x0 y

/-- Every store of codes holds the codes where it goes. -/
theorem pieces8 : ∀ p ∈ kernelRun0_A.sl.H8_40 (F := Ideal) c arg1 harg1 x0, ∀ x : p.1.shape.Idx, p.2 x = codeG x0 (p.1.emb x) := by
  have hI : ∀ y : S256x128.Idx, kernelRun0_A.sl.r_5 (F := Ideal) c arg1 harg1 x0 y = invOf (zOf (rowOf x0 (y 0))) := by
    intro y
    unfold kernelRun0_A.sl.r_5 kernelRun0_A.sl.r_3 kernelRun0_A.sl.r_2 kernelRun0_A.sl.r_1 kernelRun0_A.sl.r
    simp (disch := decide) only [View.readAt_eq_ld, View.ld_unit_lit', Memref.IsWhole.read_unread]
    exact pay8_at x0 y
  have key := chunk_at arg1 harg1 x0 _ hI
  unfold kernelRun0_A.sl.H8_40
  simp only [List.forall_mem_cons]
  repeat' refine And.intro (key _ _ _ rfl) ?_
  exact fun _ h => absurd h List.not_mem_nil

/-- The block of codes one point leaves. -/
theorem out8 (y : S256x5120.Idx) : out0_A_8 c i arg1 harg1 arg2 harg2 arg3 harg3 arg4 harg4 arg5 harg5 arg6 harg6 arg7 harg7 arg8 harg8 arg9 harg9 arg10 harg10 x0 x1 x2 x3 x4 y = codeG x0 y := by
  unfold out0_A_8
  exact View.read_writes_apply_of_pieces VO0_8 VO0_8.junk (codeG x0) _ (pieces8 c arg1 harg1 x0) y (cover0_A_8 c i arg1 harg1 arg2 harg2 arg3 harg3 arg4 harg4 arg5 harg5 arg6 harg6 arg7 harg7 arg8 harg8 arg9 harg9 arg10 harg10 x0 x1 x2 x3 x4 y)

/-- The codes read back for the product are the codes. -/
theorem back (hcov : ∀ y, ∃ p ∈ kernelRun0_A.sl.H8_40 (F := Ideal) c arg1 harg1 x0, y ∈ p.1.set) (y : S256x5120.Idx) : kernelRun0_A.sl.v492 (F := Ideal) c arg1 harg1 arg9 x0 y = codeG x0 y := by
  unfold kernelRun0_A.sl.v492 View.readCov
  rw [View.readAt_eq_ld]
  have e : (Rect.unit (s := S256x5120) ![0, 0] S256x5120.size inb_S256x5120_S256x5120_0_0).idx y = y := by
    funext a; fin_cases a <;> exact Fin.ext (by simp)
  unfold View.ld
  rw [e]
  exact View.read_writes_apply_of_pieces _ _ (codeG x0) _ (pieces8 c arg1 harg1 x0) y (hcov y)

/-- The scale as the heads read it. -/
theorem scale_at (y : S256x128.Idx) : kernelRun0_A.sl.r_4 (F := Ideal) c arg1 harg1 x0 y = scaleOf (zOf (rowOf x0 (y 0))) := by
  unfold kernelRun0_A.sl.r_4 kernelRun0_A.sl.r_3 kernelRun0_A.sl.r_2 kernelRun0_A.sl.r_1 kernelRun0_A.sl.r
  simp (disch := decide) only [View.readAt_eq_ld, View.ld_unit_lit', Memref.IsWhole.read_unread]
  exact pay7_at x0 y

/-- The cosine as the heads read it. -/
theorem cos_at (y : S256x128.Idx) :
    kernelRun0_A.sl.r_16 (F := Ideal) c arg5 harg5 x4 y = Ideal.cos (ang (x4 (ix2 0 (y 0))) (BitVec.ofNat 32 ((y 1).val % 64))) := by
  unfold kernelRun0_A.sl.r_16
  simp (disch := decide) only [View.readAt_eq_ld, View.ld_unit_lit', Memref.IsWhole.read_unread]
  exact pay62_at x4 y

/-- The signed sine as the heads read it. -/
theorem sin_at (y : S256x128.Idx) : kernelRun0_A.sl.r_17 (F := Ideal) c arg5 harg5 x4 y = ssin (x4 (ix2 0 (y 0))) (y 1) := by
  unfold kernelRun0_A.sl.r_17 kernelRun0_A.sl.v450
  simp (disch := decide) only [View.readAt_eq_ld, View.ld_unit_lit', Memref.IsWhole.read_unread]
  exact pay63_at x4 y

/-- The column of the weights that lane `l` of head `w` is. -/
abbrev col (w : Fin 60) (l : Fin 128) : Fin 7680 := ⟨128 * w.val + l.val, by omega⟩

/-- A head's affine part: the codes by the weights, times the row scale and the column scale, plus the bias. -/
def lin (w : Fin 60) (r : Fin 256) (l : Fin 128) : EReal :=
  (∑ k : Fin 5120, codeG x0 (ix2 r k) * x1 (ix2 k (col w l))) * scaleOf (zOf (rowOf x0 r)) * x2 (ix2 w l) + x3 (ix2 w l)

/-- A head turned by its row's position. -/
def turned (w : Fin 60) (r : Fin 256) (l : Fin 128) : EReal :=
  lin x0 x1 x2 x3 w r l * Ideal.cos (ang (x4 (ix2 0 r)) (BitVec.ofNat 32 (l.val % 64)))
    + lin x0 x1 x2 x3 w r ⟨(l.val + 64) % 128, Nat.mod_lt _ (by norm_num)⟩ * ssin (x4 (ix2 0 r)) l

/-- Head `n` of group `g` among all the heads. -/
def headOf (g : Fin 3) (n : Fin 20) : Fin 60 := ⟨20 * g.val + n.val, by omega⟩

/-- A group's heads, turned. -/
def turnedG (g : Fin 3) (y : S20x256x128.Idx) : EReal := turned x0 x1 x2 x3 x4 (headOf g (y 0)) (y 1) (y 2)

/-- A group's heads, not turned. -/
def linG (g : Fin 3) (y : S20x256x128.Idx) : EReal := lin x0 x1 x2 x3 (headOf g (y 0)) (y 1) (y 2)

/-- A head's affine part as the kernel takes it out of a panel of the product. -/
theorem yK_lin (C : Vec Ideal S256x5120 .fp8e4m3) (hC : ∀ y, C y = codeG x0 y) (sc : FVec Ideal S256x128 .f32)
    (hsc : ∀ y : S256x128.Idx, sc y = scaleOf (zOf (rowOf x0 (y 0)))) (o : Nat) (hs : S256x512.Slices ![0, o] S256x128) (q w : Nat)
    (inb2 : ∀ a, (![0, q] : Fin 2 → Nat) a + S5120x512.size a ≤ S5120x7680.size a)
    (inb3 : ∀ a, (![w, 0] : Fin 2 → Nat) a + S1x128.size a ≤ S60x128.size a) (hw : w < 60) (ho : o + 128 ≤ 512) (hq : q + o = 128 * w) (y : S256x128.Idx) :
    yK o hs (k0_pay64 C (View.readAt (Elt Ideal) arg2.view (Rect.unit (s := S5120x7680) ![0, q] S5120x512.size inb2).toLoadRect (harg2.unread x1))) sc
        (View.readAt (Elt Ideal) arg3.view (Rect.unit (s := S60x128) ![w, 0] S1x128.size inb3).toLoadRect (harg3.unread x2))
        (View.readAt (Elt Ideal) arg4.view (Rect.unit (s := S60x128) ![w, 0] S1x128.size inb3).toLoadRect (harg4.unread x3)) y
      = lin x0 x1 x2 x3 ⟨w, hw⟩ (y 0) (y 1) := by
  rw [yK_at o ho, dot_at, hsc, View.readAt_eq_ld, View.readAt_eq_ld, View.readAt_eq_ld, harg2.read_unread, harg3.read_unread, harg4.read_unread]
  unfold lin
  have e3 : (Rect.unit (s := S60x128) ![w, 0] S1x128.size inb3).idx (ix2 0 (y 1)) = ix2 ⟨w, hw⟩ (y 1) := by
    funext a; fin_cases a <;> exact Fin.ext (by simp)
  have e2 : ∀ k : Fin 5120, ∀ h, (Rect.unit (s := S5120x7680) ![0, q] S5120x512.size inb2).idx (ix2 k ⟨o + (y 1).val, h⟩) = ix2 k (col ⟨w, hw⟩ (y 1)) := by
    intro k h; funext a; fin_cases a
    · exact Fin.ext (by simp)
    · exact Fin.ext (by simp; omega)
  exact congrArg₂ (· + ·) (congrArg₂ (· * ·) (congrArg (· * _) (Finset.sum_congr rfl fun k _ => congrArg₂ (· * ·) (hC _) (congrArg x1 (e2 k _)))) (congrArg x2 e3))
    (congrArg x3 e3)

/-- A store of a turned head holds it where it goes. -/
theorem turned_piece (C : Vec Ideal S256x5120 .fp8e4m3) (hC : ∀ y, C y = codeG x0 y) (sc : FVec Ideal S256x128 .f32)
    (hsc : ∀ y : S256x128.Idx, sc y = scaleOf (zOf (rowOf x0 (y 0)))) (co si : FVec Ideal S256x128 .f32)
    (hco : ∀ y : S256x128.Idx, co y = Ideal.cos (ang (x4 (ix2 0 (y 0))) (BitVec.ofNat 32 ((y 1).val % 64))))
    (hsi : ∀ y : S256x128.Idx, si y = ssin (x4 (ix2 0 (y 0))) (y 1)) (g : Fin 3)
    (n o : Nat) (hs : S256x512.Slices ![0, o] S256x128) (q w : Nat)
    (inb1 : ∀ a, (![n, 0, 0] : Fin 3 → Nat) a + S1x256x128.size a ≤ S20x256x128.size a)
    (inb2 : ∀ a, (![0, q] : Fin 2 → Nat) a + S5120x512.size a ≤ S5120x7680.size a)
    (inb3 : ∀ a, (![w, 0] : Fin 2 → Nat) a + S1x128.size a ≤ S60x128.size a) (V : FVec Ideal S1x256x128 .bf16)
    (hV : V = ropeK co si (yK o hs (k0_pay64 C (View.readAt (Elt Ideal) arg2.view (Rect.unit (s := S5120x7680) ![0, q] S5120x512.size inb2).toLoadRect (harg2.unread x1))) sc
        (View.readAt (Elt Ideal) arg3.view (Rect.unit (s := S60x128) ![w, 0] S1x128.size inb3).toLoadRect (harg3.unread x2))
        (View.readAt (Elt Ideal) arg4.view (Rect.unit (s := S60x128) ![w, 0] S1x128.size inb3).toLoadRect (harg4.unread x3))))
    (hw : w = 20 * g.val + n) (ho : o + 128 ≤ 512) (hq : q + o = 128 * w) (x : (Rect.unit (s := S20x256x128) ![n, 0, 0] S1x256x128.size inb1).shape.Idx) :
    V x = turnedG x0 x1 x2 x3 x4 g ((Rect.unit (s := S20x256x128) ![n, 0, 0] S1x256x128.size inb1).emb x) := by
  have hn : n < 20 := by have := inb1 0; simp at this; omega
  have hw60 : w < 60 := by omega
  have e0 : headOf g ((Rect.unit (s := S20x256x128) ![n, 0, 0] S1x256x128.size inb1).emb x 0) = ⟨w, hw60⟩ := by
    have : ((Rect.unit (s := S20x256x128) ![n, 0, 0] S1x256x128.size inb1).emb x 0).val = n := by simp
    exact Fin.ext (by simp only [headOf]; rw [this]; omega)
  have e1 : (Rect.unit (s := S20x256x128) ![n, 0, 0] S1x256x128.size inb1).emb x 1 = x 1 := Fin.ext (by simp)
  have e2 : (Rect.unit (s := S20x256x128) ![n, 0, 0] S1x256x128.size inb1).emb x 2 = x 2 := Fin.ext (by simp)
  have hy := yK_lin arg2 harg2 arg3 harg3 arg4 harg4 x0 x1 x2 x3 C hC sc hsc o hs q w inb2 inb3 hw60 ho hq
  subst hV
  refine (ropeK_at _ _ _ x).trans ?_
  unfold turnedG turned
  rw [e0, e1, e2, hy, hy, hco, hsi]
  rfl

/-- A store of a head that is not turned holds it where it goes. -/
theorem plain_piece (C : Vec Ideal S256x5120 .fp8e4m3) (hC : ∀ y, C y = codeG x0 y) (sc : FVec Ideal S256x128 .f32)
    (hsc : ∀ y : S256x128.Idx, sc y = scaleOf (zOf (rowOf x0 (y 0)))) (g : Fin 3)
    (n o : Nat) (hs : S256x512.Slices ![0, o] S256x128) (q w : Nat)
    (inb1 : ∀ a, (![n, 0, 0] : Fin 3 → Nat) a + S1x256x128.size a ≤ S20x256x128.size a)
    (inb2 : ∀ a, (![0, q] : Fin 2 → Nat) a + S5120x512.size a ≤ S5120x7680.size a)
    (inb3 : ∀ a, (![w, 0] : Fin 2 → Nat) a + S1x128.size a ≤ S60x128.size a) (V : FVec Ideal S1x256x128 .bf16)
    (hV : V = plainK (yK o hs (k0_pay64 C (View.readAt (Elt Ideal) arg2.view (Rect.unit (s := S5120x7680) ![0, q] S5120x512.size inb2).toLoadRect (harg2.unread x1))) sc
        (View.readAt (Elt Ideal) arg3.view (Rect.unit (s := S60x128) ![w, 0] S1x128.size inb3).toLoadRect (harg3.unread x2))
        (View.readAt (Elt Ideal) arg4.view (Rect.unit (s := S60x128) ![w, 0] S1x128.size inb3).toLoadRect (harg4.unread x3))))
    (hw : w = 20 * g.val + n) (ho : o + 128 ≤ 512) (hq : q + o = 128 * w) (x : (Rect.unit (s := S20x256x128) ![n, 0, 0] S1x256x128.size inb1).shape.Idx) :
    V x = linG x0 x1 x2 x3 g ((Rect.unit (s := S20x256x128) ![n, 0, 0] S1x256x128.size inb1).emb x) := by
  have hn : n < 20 := by have := inb1 0; simp at this; omega
  have hw60 : w < 60 := by omega
  have e0 : headOf g ((Rect.unit (s := S20x256x128) ![n, 0, 0] S1x256x128.size inb1).emb x 0) = ⟨w, hw60⟩ := by
    have : ((Rect.unit (s := S20x256x128) ![n, 0, 0] S1x256x128.size inb1).emb x 0).val = n := by simp
    exact Fin.ext (by simp only [headOf]; rw [this]; omega)
  have e1 : (Rect.unit (s := S20x256x128) ![n, 0, 0] S1x256x128.size inb1).emb x 1 = x 1 := Fin.ext (by simp)
  have e2 : (Rect.unit (s := S20x256x128) ![n, 0, 0] S1x256x128.size inb1).emb x 2 = x 2 := Fin.ext (by simp)
  subst hV
  refine (plainK_at _ x).trans ?_
  unfold linG
  rw [e0, e1, e2]
  exact yK_lin arg2 harg2 arg3 harg3 arg4 harg4 x0 x1 x2 x3 C hC sc hsc o hs q w inb2 inb3 hw60 ho hq _

/-- The block of query heads one point leaves. -/
theorem out5 (y : S20x256x128.Idx) : out0_A_5 c i arg1 harg1 arg2 harg2 arg3 harg3 arg4 harg4 arg5 harg5 arg6 harg6 arg7 harg7 arg8 harg8 arg9 harg9 arg10 harg10 x0 x1 x2 x3 x4 y = turnedG x0 x1 x2 x3 x4 0 y := by
  have key := turned_piece arg2 harg2 arg3 harg3 arg4 harg4 x0 x1 x2 x3 x4 _ (back c arg1 harg1 arg9 x0 (cover0_A_8 c i arg1 harg1 arg2 harg2 arg3 harg3 arg4 harg4 arg5 harg5 arg6 harg6 arg7 harg7 arg8 harg8 arg9 harg9 arg10 harg10 x0 x1 x2 x3 x4)) _ (scale_at c arg1 harg1 x0) _ _
    (cos_at c arg5 harg5 x4) (sin_at c arg5 harg5 x4) 0
  unfold out0_A_5
  refine View.read_writes_apply_of_pieces VO0_5 VO0_5.junk (turnedG x0 x1 x2 x3 x4 0) _ ?_ y (cover0_A_5 c i arg1 harg1 arg2 harg2 arg3 harg3 arg4 harg4 arg5 harg5 arg6 harg6 arg7 harg7 arg8 harg8 arg9 harg9 arg10 harg10 x0 x1 x2 x3 x4 y)
  unfold kernelRun0_A; dsimp only
  simp only [List.forall_mem_cons]
  repeat' refine And.intro (key _ _ _ _ _ _ _ _ _ rfl rfl (by decide) rfl) ?_
  exact fun _ h => absurd h List.not_mem_nil

/-- The block of key heads one point leaves. -/
theorem out6 (y : S20x256x128.Idx) : out0_A_6 c i arg1 harg1 arg2 harg2 arg3 harg3 arg4 harg4 arg5 harg5 arg6 harg6 arg7 harg7 arg8 harg8 arg9 harg9 arg10 harg10 x0 x1 x2 x3 x4 y = turnedG x0 x1 x2 x3 x4 1 y := by
  have key := turned_piece arg2 harg2 arg3 harg3 arg4 harg4 x0 x1 x2 x3 x4 _ (back c arg1 harg1 arg9 x0 (cover0_A_8 c i arg1 harg1 arg2 harg2 arg3 harg3 arg4 harg4 arg5 harg5 arg6 harg6 arg7 harg7 arg8 harg8 arg9 harg9 arg10 harg10 x0 x1 x2 x3 x4)) _ (scale_at c arg1 harg1 x0) _ _
    (cos_at c arg5 harg5 x4) (sin_at c arg5 harg5 x4) 1
  unfold out0_A_6
  refine View.read_writes_apply_of_pieces VO0_6 VO0_6.junk (turnedG x0 x1 x2 x3 x4 1) _ ?_ y (cover0_A_6 c i arg1 harg1 arg2 harg2 arg3 harg3 arg4 harg4 arg5 harg5 arg6 harg6 arg7 harg7 arg8 harg8 arg9 harg9 arg10 harg10 x0 x1 x2 x3 x4 y)
  unfold kernelRun0_A; dsimp only
  simp only [List.forall_mem_cons]
  repeat' refine And.intro (key _ _ _ _ _ _ _ _ _ rfl rfl (by decide) rfl) ?_
  exact fun _ h => absurd h List.not_mem_nil

/-- The block of value heads one point leaves. -/
theorem out7 (y : S20x256x128.Idx) : out0_A_7 c i arg1 harg1 arg2 harg2 arg3 harg3 arg4 harg4 arg5 harg5 arg6 harg6 arg7 harg7 arg8 harg8 arg9 harg9 arg10 harg10 x0 x1 x2 x3 x4 y = linG x0 x1 x2 x3 2 y := by
  have key := plain_piece arg2 harg2 arg3 harg3 arg4 harg4 x0 x1 x2 x3 _ (back c arg1 harg1 arg9 x0 (cover0_A_8 c i arg1 harg1 arg2 harg2 arg3 harg3 arg4 harg4 arg5 harg5 arg6 harg6 arg7 harg7 arg8 harg8 arg9 harg9 arg10 harg10 x0 x1 x2 x3 x4)) _ (scale_at c arg1 harg1 x0) 2
  unfold out0_A_7
  refine View.read_writes_apply_of_pieces VO0_7 VO0_7.junk (linG x0 x1 x2 x3 2) _ ?_ y (cover0_A_7 c i arg1 harg1 arg2 harg2 arg3 harg3 arg4 harg4 arg5 harg5 arg6 harg6 arg7 harg7 arg8 harg8 arg9 harg9 arg10 harg10 x0 x1 x2 x3 x4 y)
  unfold kernelRun0_A; dsimp only
  simp only [List.forall_mem_cons]
  repeat' refine And.intro (key _ _ _ _ _ _ _ _ _ rfl rfl (by decide) rfl) ?_
  exact fun _ h => absurd h List.not_mem_nil

end

end Cert.KernelIdeal.Value

end
-- ==== Proof.RowMath.lean ====
module

public import proofs.«01_k».proof.Proof.Heads

@[expose] public section

set_option maxRecDepth 16384

noncomputable section

namespace Cert.Value

open Idealize.ShloMosaic

/-! ## The two scales of a row -/

/-- The bits of infinity. -/
theorem inf_bits : Ideal.ofBits .f32 0x7F800000#32 = ⊤ := by
  simp [Ideal.ofBits, Ideal.ieee]

/-- The bits of one. -/
theorem one_bits : Ideal.ofBits .f32 0x3F800000#32 = 1 := by
  simp [Ideal.ofBits, Ideal.ieee]
  rw [← EReal.coe_mul]
  norm_num

/-- The bits of two. -/
theorem two_bits : Ideal.ofBits .f32 0x40000000#32 = ((2 : ℝ) : EReal) := by
  simp [Ideal.ofBits, Ideal.ieee]
  norm_cast
  norm_num

/-- The bits of minus 125. -/
theorem low_bits : Ideal.ofBits .f32 0xC2FA0000#32 = ((-125 : ℝ) : EReal) := by
  simp [Ideal.ofBits, Ideal.ieee]
  norm_cast
  norm_num

/-- The bits of the least normal number. -/
theorem normal_bits : Ideal.ofBits .f32 0x00800000#32 = (((2 : ℝ) ^ (-126 : ℤ) : ℝ) : EReal) := by
  simp [Ideal.ofBits, Ideal.ieee]
  try norm_cast
  try norm_num

/-- The reciprocal of 448 as a float is a positive real at most one. -/
theorem recip_bits : ∃ q : ℝ, 0 < q ∧ q ≤ 1 / 8 ∧ Ideal.ofBits .f32 0x3B124925#32 = (q : EReal) := by
  refine ⟨_, ?_, ?_, by simp [Ideal.ofBits, Ideal.ieee]; rfl⟩ <;> norm_num

/-- The largest finite bf16 is a real below `2 ^ 128`. -/
theorem max_bits : ∃ q : ℝ, q < 2 ^ (128 : ℤ) ∧ Ideal.ofBits .f32 0x7F7F0000#32 = (q : EReal) := by
  refine ⟨_, ?_, by simp [Ideal.ofBits, Ideal.ieee]; rfl⟩
  norm_num

/-- Power number `k` of the list that starts at `2 ^ -125`. -/
def pw (k : Fin 254) : EReal :=
  Ideal.pow (Ideal.ofBits .f32 0x40000000#32) (Ideal.ofBits .f32 0xC2FA0000#32 + FloatOps.sitofp (F := Ideal) .f32 (BitVec.ofNat 32 k.val))

/-- It is the power of two with exponent `k - 125`. -/
theorem pw_eq (k : Fin 254) : pw k = (((2 : ℝ) ^ ((k.val : ℤ) - 125) : ℝ) : EReal) := by
  have h : FloatOps.sitofp (F := Ideal) .f32 (BitVec.ofNat 32 k.val) = (((k.val : ℤ) : ℝ) : EReal) := by
    have e : (BitVec.ofNat 32 k.val).toInt = (k.val : ℤ) := by
      have := k.isLt
      rw [BitVec.toInt_eq_toNat_of_lt (by simp; omega)]
      simp; omega
    show (((BitVec.ofNat 32 k.val).toInt : ℝ) : EReal) = _
    rw [e]
  unfold pw
  rw [h, two_bits, low_bits, ← EReal.coe_add]
  show ((Real.rpow 2 (-125 + ((k.val : ℤ) : ℝ)) : ℝ) : EReal) = _
  congr 1
  rw [show (-125 + ((k.val : ℤ) : ℝ)) = (((k.val : ℤ) - 125 : ℤ) : ℝ) by push_cast; ring]
  exact Real.rpow_intCast 2 _

/-- The scale of a row as the reference chooses it: one for a row of zeros, the least listed power of two above the row's
    largest magnitude over 448 elsewhere. -/
def refScale (row : Fin 5120 → EReal) : EReal :=
  if amax row = Ideal.ofBits .f32 0x00000000#32 then Ideal.ofBits .f32 0x3F800000#32
  else Finset.univ.fold min (Ideal.ofBits .f32 0x7F800000#32) fun k : Fin 254 =>
    if zOf row < pw k then pw k else Ideal.ofBits .f32 0x7F800000#32

/-- The code of an element as the reference computes it. -/
def refCode (row : Fin 5120 → EReal) (e : EReal) : EReal :=
  min (Ideal.ofBits .f32 0x43E00000#32) (max (Ideal.ofBits .f32 0xC3E00000#32) (e * Ideal.div (Ideal.ofBits .f32 0x3F800000#32) (refScale row)))

/-- What the precondition says of a row. -/
def PreRow (row : Fin 5120 → EReal) : Prop :=
  amax row = Ideal.ofBits .f32 0x00000000#32 ∨
    (Ideal.ofBits .f32 0x00800000#32 ≤ zOf row ∧ amax row ≤ Ideal.ofBits .f32 0x7F7F0000#32)

/-- The row's largest magnitude over 448 is below `2 ^ 126` when the magnitude is at most the largest bf16. -/
theorem z_lt {row : Fin 5120 → EReal} (h : amax row ≤ Ideal.ofBits .f32 0x7F7F0000#32) : zOf row < (((2 : ℝ) ^ (126 : ℤ) : ℝ) : EReal) := by
  obtain ⟨q, hq0, hq1, hq⟩ := recip_bits
  obtain ⟨M, hM, hMe⟩ := max_bits
  rw [hMe] at h
  unfold zOf
  rw [hq]
  have h1 : amax row * (q : EReal) ≤ (M : EReal) * (q : EReal) := mul_le_mul_of_nonneg_right h (by exact_mod_cast hq0.le)
  refine lt_of_le_of_lt h1 ?_
  rw [← EReal.coe_mul, EReal.coe_lt_coe_iff]
  have h2 : M * q < 2 ^ (128 : ℤ) * q := mul_lt_mul_of_pos_right hM hq0
  have h3 : (2 : ℝ) ^ (128 : ℤ) * q ≤ 2 ^ (128 : ℤ) * (1 / 8) := mul_le_mul_of_nonneg_left hq1 (by positivity)
  have h4 : (2 : ℝ) ^ (128 : ℤ) * (1 / 8) < 2 ^ (126 : ℤ) := by norm_num
  linarith

/-- Under the precondition both scales are the same, and so are their inverses. -/
theorem scale_eq {row : Fin 5120 → EReal} (h : PreRow row) :
    refScale row = scaleOf (zOf row) ∧ Ideal.div (Ideal.ofBits .f32 0x3F800000#32) (refScale row) = invOf (zOf row) := by
  by_cases h0 : amax row = Ideal.ofBits .f32 0x00000000#32
  · have hz : zOf row = 0 := by unfold zOf; rw [h0, zero_bits, zero_mul]
    have hr : refScale row = 1 := by unfold refScale; rw [if_pos h0, one_bits]
    rw [hr, hz, scale_zero.1, scale_zero.2, one_bits]
    refine ⟨rfl, ?_⟩
    unfold Ideal.div
    rw [if_neg one_ne_zero, one_mul]
    show ((1 : ℝ) : EReal)⁻¹ = _
    rw [← EReal.coe_inv, inv_one]; rfl
  · obtain ⟨hlo, hhi⟩ := h.resolve_left h0
    rw [normal_bits] at hlo
    obtain ⟨k, hk1, hk2, hs, hi, hzl, hzu⟩ := scale_spec hlo (z_lt hhi)
    have hr : refScale row = (((2 : ℝ) ^ k : ℝ) : EReal) := by
      unfold refScale
      rw [if_neg h0, inf_bits]
      refine le_antisymm ?_ ?_
      · refine (Finset.fold_min_le _).mpr (Or.inr ⟨⟨(k + 125).toNat, by omega⟩, Finset.mem_univ _, ?_⟩)
        have e : pw ⟨(k + 125).toNat, by omega⟩ = (((2 : ℝ) ^ k : ℝ) : EReal) := by
          rw [pw_eq]; congr 2; simp only; omega
        rw [e, if_pos hzu]
      · refine (Finset.le_fold_min _).mpr ⟨le_top, fun j _ => ?_⟩
        split_ifs with hj
        · have := lt_of_le_of_lt hzl hj
          rw [pw_eq] at this ⊢
          have := (zpow_lt_zpow_iff_right₀ (by norm_num : (1 : ℝ) < 2)).mp (EReal.coe_lt_coe_iff.mp this)
          exact EReal.coe_le_coe_iff.mpr (zpow_le_zpow_right₀ (by norm_num) (by omega))
        · exact le_top
    rw [hr, hs, hi, one_bits]
    refine ⟨rfl, ?_⟩
    have hne : (((2 : ℝ) ^ k : ℝ) : EReal) ≠ 0 := by
      exact_mod_cast (by positivity : (2 : ℝ) ^ k ≠ 0)
    unfold Ideal.div
    rw [if_neg hne, one_mul, ← EReal.coe_inv, zpow_neg]

/-- Under the precondition both codes are the same. -/
theorem code_eq {row : Fin 5120 → EReal} (h : PreRow row) (e : EReal) : refCode row e = codeOf row e := by
  unfold refCode codeOf
  rw [(scale_eq h).2]

/-! ## The five results, from the arguments' elements -/

section
variable (X : Fin 3072 → Fin 5120 → EReal) (W : Fin 5120 → Fin 7680 → EReal) (S B : Fin 7680 → EReal) (P : Fin 3072 → BitVec 32)

/-- Lane `l` of head `h` among the columns. -/
def colOf (h : Fin 60) (l : Fin 128) : Fin 7680 := ⟨128 * h.val + l.val, by omega⟩

/-- The lane half a head away. -/
def across (l : Fin 128) : Fin 128 := ⟨(l.val + 64) % 128, Nat.mod_lt _ (by norm_num)⟩

/-- A head before it is turned: the codes by the weights, times the row scale and the column scale, plus the bias. -/
def headS (h : Fin 60) (r : Fin 3072) (l : Fin 128) : EReal :=
  (∑ k : Fin 5120, codeOf (X r) (X r k) * W k (colOf h l)) * scaleOf (zOf (X r)) * S (colOf h l) + B (colOf h l)

/-- A head turned by its row's position. -/
def turnS (h : Fin 60) (r : Fin 3072) (l : Fin 128) : EReal :=
  headS X W S B h r l * Ideal.cos (ang (P r) (BitVec.ofNat 32 (l.val % 64))) + headS X W S B h r (across l) * ssin (P r) l

end

/-- The two halves of a turned head, as a difference below and a sum above. -/
theorem turn_halves (u v : EReal) (p : BitVec 32) (l : Fin 128) :
    u * Ideal.cos (ang p (BitVec.ofNat 32 (l.val % 64))) + v * ssin p l =
      if l.val < 64 then u * Ideal.cos (ang p (BitVec.ofNat 32 (l.val % 64))) - v * Ideal.sin (ang p (BitVec.ofNat 32 (l.val % 64)))
      else u * Ideal.cos (ang p (BitVec.ofNat 32 (l.val % 64))) + v * Ideal.sin (ang p (BitVec.ofNat 32 (l.val % 64))) := by
  unfold ssin
  split_ifs
  · rw [sub_eq_add_neg, sub_eq_add_neg, zero_add, mul_neg]
  · rfl

end Cert.Value

end
-- ==== Proof.Final.lean ====
module

public import proofs.«01_k».proof.Proof.Blocks
public import proofs.«01_k».proof.Proof.RowMath
public import Idealize.ShloMosaic.Lib.StableHlo.ReadAt

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

variable (m : (ℓ : Loc nD τ sig) → Buf (Elt Ideal) ℓ) (c : Dev nD)

/-- The activations. -/
abbrev a0 : FVec Ideal S1x3072x5120 .bf16 := m ((c : Thread nD τ).loc main_arg0)
/-- The weights. -/
abbrev a1 : FVec Ideal S5120x7680 .fp8e4m3 := m ((c : Thread nD τ).loc main_arg1)
/-- The column scales. -/
abbrev a2 : FVec Ideal S7680 .f32 := m ((c : Thread nD τ).loc main_arg2)
/-- The bias. -/
abbrev a3 : FVec Ideal S7680 .bf16 := m ((c : Thread nD τ).loc main_arg3)
/-- The positions. -/
abbrev a4 : IVec S1x3072 32 := m ((c : Thread nD τ).loc main_arg4)

/-- The activations by row and column. -/
def X (r : Fin 3072) (k : Fin 5120) : EReal := a0 m c (ix3 0 r k)
/-- The weights by row and column. -/
def W (k : Fin 5120) (n : Fin 7680) : EReal := a1 m c (ix2 k n)
/-- The column scales by column. -/
def S (n : Fin 7680) : EReal := a2 m c (ix1 n)
/-- The bias by column. -/
def B (n : Fin 7680) : EReal := a3 m c (ix1 n)
/-- The positions by row. -/
def P (r : Fin 3072) : BitVec 32 := a4 m c (ix2 0 r)

/-! ## The blocks the points read -/

/-- The activations' buffer when the kernel starts. -/
theorem V_x : V m c main_v0 = shapeCast S3072x5120 (a0 m c) shapeCasts_S1x3072x5120_S3072x5120 := by
  unfold V V0
  simp only [List.flatten_cons, List.flatten_nil, List.append_nil, List.cons_append, List.nil_append]
  after_reads_simp
  rfl

/-- The column scales' buffer when the kernel starts. -/
theorem V_s : V m c main_v1 = shapeCast S60x128 (a2 m c) shapeCasts_S7680_S60x128 := by
  unfold V V0
  simp only [List.flatten_cons, List.flatten_nil, List.append_nil, List.cons_append, List.nil_append]
  after_reads_simp
  rfl

/-- The bias's buffer when the kernel starts. -/
theorem V_b : V m c main_v2 = shapeCast S60x128 (a3 m c) shapeCasts_S7680_S60x128 := by
  unfold V V0
  simp only [List.flatten_cons, List.flatten_nil, List.append_nil, List.cons_append, List.nil_append]
  after_reads_simp
  rfl

/-- The weights' buffer when the kernel starts. -/
theorem V_w : V m c main_arg1 = a1 m c := by
  unfold V V0
  simp only [List.flatten_cons, List.flatten_nil, List.append_nil, List.cons_append, List.nil_append]
  after_reads_simp

/-- The positions' buffer when the kernel starts. -/
theorem V_p : V m c main_arg4 = a4 m c := by
  unfold V V0
  simp only [List.flatten_cons, List.flatten_nil, List.append_nil, List.cons_append, List.nil_append]
  after_reads_simp

/-- Row `r` of the block of point `t`. -/
def rowAt (t : Fin cfg0.N) (r : Fin 256) : Fin 3072 := ⟨256 * t.val + r.val, by
  have h : t.val < 12 := t.isLt
  omega⟩

/-- The reshaped activations at an index. -/
theorem x_at (v : FVec Ideal S1x3072x5120 .bf16) (y : S3072x5120.Idx) :
    shapeCast S3072x5120 v shapeCasts_S1x3072x5120_S3072x5120 y = v (ix3 0 (y 0) (y 1)) := by
  pointwise

/-- The reshaped column scales at an index. -/
theorem s_at (v : FVec Ideal S7680 .f32) (y : S60x128.Idx) :
    shapeCast S60x128 v shapeCasts_S7680_S60x128 y = v (ix1 (colOf (y 0) (y 1))) := by
  pointwise
  exact congrArg (fun n => v (ix1 n)) (Fin.ext (by simp only [colOf]; omega))

/-- The reshaped bias at an index. -/
theorem b_at (v : FVec Ideal S7680 .bf16) (y : S60x128.Idx) :
    shapeCast S60x128 v shapeCasts_S7680_S60x128 y = v (ix1 (colOf (y 0) (y 1))) := by
  pointwise
  exact congrArg (fun n => v (ix1 n)) (Fin.ext (by simp only [colOf]; omega))

/-- At a grid point the first argument's window is the block of rows with the point's number. -/
theorem e0 : ∀ t : Fin cfg0.N, win0_0.index t = ![t.val, 0] := (by decide +kernel : ∀ t : Fin grid0.N, _)
/-- The weights' window is the whole array at every grid point. -/
theorem e1 : ∀ t : Fin cfg0.N, win0_1.index t = ![0, 0] := (by decide +kernel : ∀ t : Fin grid0.N, _)
/-- The column scales' window is the whole array at every grid point. -/
theorem e2 : ∀ t : Fin cfg0.N, win0_2.index t = ![0, 0] := (by decide +kernel : ∀ t : Fin grid0.N, _)
/-- The biases' window is the whole array at every grid point. -/
theorem e3 : ∀ t : Fin cfg0.N, win0_3.index t = ![0, 0] := (by decide +kernel : ∀ t : Fin grid0.N, _)
/-- The positions' window is the block of positions with the point's number. -/
theorem e4 : ∀ t : Fin cfg0.N, win0_4.index t = ![0, t.val] := (by decide +kernel : ∀ t : Fin grid0.N, _)
/-- The first heads' window is the block of rows with the point's number. -/
theorem e5 : ∀ t : Fin cfg0.N, win0_5.index t = ![0, t.val, 0] := (by decide +kernel : ∀ t : Fin grid0.N, _)
/-- The second heads' window is the block of rows with the point's number. -/
theorem e6 : ∀ t : Fin cfg0.N, win0_6.index t = ![0, t.val, 0] := (by decide +kernel : ∀ t : Fin grid0.N, _)
/-- The third heads' window is the block of rows with the point's number. -/
theorem e7 : ∀ t : Fin cfg0.N, win0_7.index t = ![0, t.val, 0] := (by decide +kernel : ∀ t : Fin grid0.N, _)
/-- The codes' window is the block of rows with the point's number. -/
theorem e8 : ∀ t : Fin cfg0.N, win0_8.index t = ![t.val, 0] := (by decide +kernel : ∀ t : Fin grid0.N, _)
/-- The scales' window is the block of scales with the point's number. -/
theorem e9 : ∀ t : Fin cfg0.N, win0_9.index t = ![0, t.val] := (by decide +kernel : ∀ t : Fin grid0.N, _)

/-- The activations a point reads. -/
theorem iblk0_at (t : Fin cfg0.N) (y : S256x5120.Idx) : iblk m c 0 t y = X m c (rowAt t (y 0)) (y 1) := by
  blk_simp [iblk]
  refine (congrFun (V_x m c) _).trans ((x_at _ _).trans ?_)
  unfold X
  have h : (rowAt t (y 0)).val = 256 * t.val + (y 0).val := rfl
  generalize rowAt t (y 0) = r at h
  congr 1
  blk_ext [e0 t]

/-- The weights a point reads. -/
theorem iblk1_at (t : Fin cfg0.N) (y : S5120x7680.Idx) : iblk m c 1 t y = W m c (y 0) (y 1) := by
  blk_simp [iblk]
  refine (congrFun (V_w m c) _).trans ?_
  unfold W
  congr 1
  blk_ext [e1 t]

/-- The column scales a point reads. -/
theorem iblk2_at (t : Fin cfg0.N) (y : S60x128.Idx) : iblk m c 2 t y = S m c (colOf (y 0) (y 1)) := by
  blk_simp [iblk]
  refine (congrFun (V_s m c) _).trans ((s_at _ _).trans ?_)
  unfold S
  congr 3
  · refine Fin.ext ?_
    blk_simp [e2 t]
  · refine Fin.ext ?_
    blk_simp [e2 t]

/-- The bias a point reads. -/
theorem iblk3_at (t : Fin cfg0.N) (y : S60x128.Idx) : iblk m c 3 t y = B m c (colOf (y 0) (y 1)) := by
  blk_simp [iblk]
  refine (congrFun (V_b m c) _).trans ((b_at _ _).trans ?_)
  unfold B
  congr 3
  · refine Fin.ext ?_
    blk_simp [e3 t]
  · refine Fin.ext ?_
    blk_simp [e3 t]

/-- The positions a point reads. -/
theorem iblk4_at (t : Fin cfg0.N) (y : S1x256.Idx) : iblk m c 4 t y = P m c (rowAt t (y 1)) := by
  blk_simp [iblk]
  refine (congrFun (V_p m c) _).trans ?_
  unfold P
  refine congrArg (a4 m c) ?_
  have h : (rowAt t (y 1)).val = 256 * t.val + (y 1).val := rfl
  generalize rowAt t (y 1) = r at h
  blk_ext [e4 t]

/-- A row of a point's block is a row of the activations. -/
theorem row_blk (t : Fin cfg0.N) (r : Fin 256) : rowOf (iblk m c 0 t) r = X m c (rowAt t r) := by
  funext k
  exact iblk0_at m c t (ix2 r k)

/-- A head's affine part of a point's blocks. -/
theorem lin_blk (t : Fin cfg0.N) (h : Fin 60) (r : Fin 256) (l : Fin 128) :
    lin (iblk m c 0 t) (iblk m c 1 t) (iblk m c 2 t) (iblk m c 3 t) h r l = headS (X m c) (W m c) (S m c) (B m c) h (rowAt t r) l := by
  unfold lin headS codeG
  refine congrArg₂ (· + ·) (congrArg₂ (· * ·) (congrArg₂ (· * ·) (Finset.sum_congr rfl fun k _ => congrArg₂ (· * ·) ?_ ?_) ?_) ?_) ?_
  · exact congrArg₂ codeOf (row_blk m c t r) (iblk0_at m c t (ix2 r k))
  · exact iblk1_at m c t (ix2 k (col h l))
  · exact congrArg (fun v => scaleOf (zOf v)) (row_blk m c t r)
  · exact iblk2_at m c t (ix2 h l)
  · exact iblk3_at m c t (ix2 h l)

/-- A turned head of a point's blocks. -/
theorem turned_blk (t : Fin cfg0.N) (h : Fin 60) (r : Fin 256) (l : Fin 128) :
    turned (iblk m c 0 t) (iblk m c 1 t) (iblk m c 2 t) (iblk m c 3 t) (iblk m c 4 t) h r l
      = turnS (X m c) (W m c) (S m c) (B m c) (P m c) h (rowAt t r) l := by
  unfold turned turnS
  rw [lin_blk, lin_blk, show iblk m c 4 t (ix2 0 r) = P m c (rowAt t r) from iblk4_at m c t (ix2 0 r)]
  rfl

/-! ## The arrays the kernel leaves -/

/-- A group's heads, turned, by head, row and lane. -/
def allTurned (g : Fin 3) (y : S20x3072x128.Idx) : EReal := turnS (X m c) (W m c) (S m c) (B m c) (P m c) (headOf g (y 0)) (y 1) (y 2)

/-- A group's heads, not turned, by head, row and lane. -/
def allLin (g : Fin 3) (y : S20x3072x128.Idx) : EReal := headS (X m c) (W m c) (S m c) (B m c) (headOf g (y 0)) (y 1) (y 2)

/-- What a point leaves of the query heads. -/
theorem point5 (t : Fin cfg0.N) (y : S20x256x128.Idx) : (outsAt0 m c t).1 y = allTurned m c 0 (ix3 (y 0) (rowAt t (y 1)) (y 2)) := by
  unfold outsAt0
  dsimp only
  rw [out5]
  exact turned_blk m c t (headOf 0 (y 0)) (y 1) (y 2)

/-- The query heads. -/
theorem final5 : (dats m 0 c).arrAt 5 cfg0.N = allTurned m c 0 := by
  refine (dats m 0 c).arrAt_eq_of_covers 5 _ (by decide +kernel) fun t hf y => ?_
  blk_simp
  rw [after0_5]
  refine (point5 m c t y).trans (congrArg (allTurned m c 0) ?_)
  have h : (rowAt t (y 1)).val = 256 * t.val + (y 1).val := rfl
  generalize rowAt t (y 1) = r at h
  blk_ext [e5 t]

/-- What a point leaves of the key heads. -/
theorem point6 (t : Fin cfg0.N) (y : S20x256x128.Idx) : (outsAt0 m c t).2.1 y = allTurned m c 1 (ix3 (y 0) (rowAt t (y 1)) (y 2)) := by
  unfold outsAt0
  dsimp only
  rw [out6]
  exact turned_blk m c t (headOf 1 (y 0)) (y 1) (y 2)

/-- The key heads. -/
theorem final6 : (dats m 0 c).arrAt 6 cfg0.N = allTurned m c 1 := by
  refine (dats m 0 c).arrAt_eq_of_covers 6 _ (by decide +kernel) fun t hf y => ?_
  blk_simp
  rw [after0_6]
  refine (point6 m c t y).trans (congrArg (allTurned m c 1) ?_)
  have h : (rowAt t (y 1)).val = 256 * t.val + (y 1).val := rfl
  generalize rowAt t (y 1) = r at h
  blk_ext [e6 t]

/-- What a point leaves of the value heads. -/
theorem point7 (t : Fin cfg0.N) (y : S20x256x128.Idx) : (outsAt0 m c t).2.2.1 y = allLin m c 2 (ix3 (y 0) (rowAt t (y 1)) (y 2)) := by
  unfold outsAt0
  dsimp only
  rw [out7]
  exact lin_blk m c t (headOf 2 (y 0)) (y 1) (y 2)

/-- The value heads. -/
theorem final7 : (dats m 0 c).arrAt 7 cfg0.N = allLin m c 2 := by
  refine (dats m 0 c).arrAt_eq_of_covers 7 _ (by decide +kernel) fun t hf y => ?_
  blk_simp
  rw [after0_7]
  refine (point7 m c t y).trans (congrArg (allLin m c 2) ?_)
  have h : (rowAt t (y 1)).val = 256 * t.val + (y 1).val := rfl
  generalize rowAt t (y 1) = r at h
  blk_ext [e7 t]

/-- The codes by row and column. -/
def allCodes (y : S3072x5120.Idx) : EReal := codeOf (X m c (y 0)) (X m c (y 0) (y 1))

/-- What a point leaves of the codes. -/
theorem point8 (t : Fin cfg0.N) (y : S256x5120.Idx) : (outsAt0 m c t).2.2.2.1 y = allCodes m c (ix2 (rowAt t (y 0)) (y 1)) := by
  unfold outsAt0
  dsimp only
  rw [out8]
  exact congrArg₂ codeOf (row_blk m c t (y 0)) (iblk0_at m c t y)

/-- The codes. -/
theorem final8 : (dats m 0 c).arrAt 8 cfg0.N = allCodes m c := by
  refine (dats m 0 c).arrAt_eq_of_covers 8 _ (by decide +kernel) fun t hf y => ?_
  blk_simp
  rw [after0_8]
  refine (point8 m c t y).trans (congrArg (allCodes m c) ?_)
  have h : (rowAt t (y 0)).val = 256 * t.val + (y 0).val := rfl
  generalize rowAt t (y 0) = r at h
  blk_ext [e8 t]

/-- The scales by row. -/
def allScales (y : S1x3072.Idx) : EReal := scaleOf (zOf (X m c (y 1)))

/-- What a point leaves of the scales. -/
theorem point9 (t : Fin cfg0.N) (y : S1x256.Idx) : (outsAt0 m c t).2.2.2.2 y = allScales m c (ix2 (y 0) (rowAt t (y 1))) := by
  unfold outsAt0
  dsimp only
  rw [out9]
  exact congrArg (fun v => scaleOf (zOf v)) (row_blk m c t (y 1))

/-- The scales. -/
theorem final9 : (dats m 0 c).arrAt 9 cfg0.N = allScales m c := by
  refine (dats m 0 c).arrAt_eq_of_covers 9 _ (by decide +kernel) fun t hf y => ?_
  blk_simp
  rw [after0_9]
  refine (point9 m c t y).trans (congrArg (allScales m c) ?_)
  have h : (rowAt t (y 1)).val = 256 * t.val + (y 1).val := rfl
  generalize rowAt t (y 1) = r at h
  blk_ext [e9 t]

end Cert.KernelIdeal.Value

end
-- ==== Proof.Results.lean ====
module

public import proofs.«01_k».proof.Proof.Final
public import proofs.«01_k».proof.Proof.Gen.Pre_rows_in_range
public import Idealize.ShloMosaic.Lib.StableHlo.ReadAt

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

/-- A group of heads as the kernel's host lines lay it out. -/
def layV (v : FVec Ideal S20x3072x128 .bf16) : FVec Ideal S1x3072x20x128 .bf16 :=
  shapeCast S1x3072x20x128 (transpose S3072x20x128 [1, 0, 2] v transposes_S20x3072x128_S3072x20x128_1_0_2) shapeCasts_S3072x20x128_S1x3072x20x128

/-- It only moves the axes. -/
theorem layV_at (v : FVec Ideal S20x3072x128 .bf16) (y : S1x3072x20x128.Idx) : layV v y = v (ix3 (y 2) (y 1) (y 3)) := by
  pointwise [layV]

/-- The reshaped codes at an index. -/
theorem codes_at (v : FVec Ideal S3072x5120 .fp8e4m3) (y : S1x3072x5120.Idx) :
    shapeCast S1x3072x5120 v shapeCasts_S3072x5120_S1x3072x5120 y = v (ix2 (y 1) (y 2)) := by
  pointwise

/-- The reshaped scales at an index. -/
theorem scales_at (v : FVec Ideal S1x3072 .f32) (y : S1x3072x1.Idx) :
    shapeCast S1x3072x1 v shapeCasts_S1x3072_S1x3072x1 y = v (ix2 0 (y 1)) := by
  pointwise

section
variable (U : Valuation τ sig (Elt Ideal))

/-- The first result after the host lines: the first heads, laid out row by row. -/
theorem tail5 : StableHlo.after hostOps1 U (Proc.devRef .tc main_v5) = layV (U (Proc.devRef .tc main_v3_0)) := by
  after_reads_simp
  rfl

/-- The second result after the host lines: the second heads, laid out row by row. -/
theorem tail7 : StableHlo.after hostOps1 U (Proc.devRef .tc main_v7) = layV (U (Proc.devRef .tc main_v3_1)) := by
  after_reads_simp
  rfl

/-- The third result after the host lines: the third heads, laid out row by row. -/
theorem tail9 : StableHlo.after hostOps1 U (Proc.devRef .tc main_v9) = layV (U (Proc.devRef .tc main_v3_2)) := by
  after_reads_simp
  rfl

/-- The fourth result after the host lines: the codes, with a batch axis. -/
theorem tail10 : StableHlo.after hostOps1 U (Proc.devRef .tc main_v10) = shapeCast S1x3072x5120 (U (Proc.devRef .tc main_v3_3)) shapeCasts_S3072x5120_S1x3072x5120 := by
  after_reads_simp
  rfl

/-- The fifth result after the host lines: the scales, with a batch axis and a unit axis. -/
theorem tail11 : StableHlo.after hostOps1 U (Proc.devRef .tc main_v11) = shapeCast S1x3072x1 (U (Proc.devRef .tc main_v3_4)) shapeCasts_S1x3072_S1x3072x1 := by
  after_reads_simp
  rfl

end

variable (m : (ℓ : Loc nD τ sig) → Buf (Elt Ideal) ℓ) (c : Dev nD)

/-- The buffers when the kernel is done. -/
abbrev UU : Valuation τ sig (Elt Ideal) := Pipeline.withArrays (cfgs 0).spec c (V0 m c) fun w => (dats m 0 c).arrAt w (cfgs 0).N

/-- A result after the host lines is the host lines over the buffers the kernel leaves. -/
theorem tail_eq (b : Ref sig .tc) : Pipeline.afterTail₀ cfgs (dats m) 0 (V0 m) [hostOps1] c b = StableHlo.after hostOps1 (UU m c) (Proc.devRef .tc b) := by
  unfold Pipeline.afterTail₀
  simp only [List.flatten_cons, List.flatten_nil, List.append_nil]

/-- No two windows share an array. -/
theorem arr_inj : Function.Injective (Pipeline.arrRef spec0) := by decide

/-- An array after the kernel is what the points leave there. -/
theorem U_arr (w : Fin 10) : UU m c (Proc.devRef .tc (Pipeline.arrRef spec0 w)) = (dats m 0 c).arrAt w cfg0.N :=
  Pipeline.withArrays_arr spec0 arr_inj c (V0 m c) (fun w => (dats m 0 c).arrAt w (cfgs 0).N) w

/-- A group's heads, turned. -/
def turnedK (g : Fin 3) (y : S1x3072x20x128.Idx) : EReal := turnS (X m c) (W m c) (S m c) (B m c) (P m c) (headOf g (y 2)) (y 1) (y 3)
/-- A group's heads, not turned. -/
def linK (g : Fin 3) (y : S1x3072x20x128.Idx) : EReal := headS (X m c) (W m c) (S m c) (B m c) (headOf g (y 2)) (y 1) (y 3)
/-- The codes. -/
def codesK (y : S1x3072x5120.Idx) : EReal := codeOf (X m c (y 1)) (X m c (y 1) (y 2))
/-- The scales. -/
def scalesK (y : S1x3072x1.Idx) : EReal := scaleOf (zOf (X m c (y 1)))

/-- The query heads. -/
theorem res5 : Pipeline.afterTail₀ cfgs (dats m) 0 (V0 m) [hostOps1] c main_v5 = turnedK m c 0 := by
  rw [tail_eq, tail5]
  funext y
  exact (layV_at _ y).trans (congrFun ((U_arr m c 5).trans (final5 m c)) _)

/-- The key heads. -/
theorem res7 : Pipeline.afterTail₀ cfgs (dats m) 0 (V0 m) [hostOps1] c main_v7 = turnedK m c 1 := by
  rw [tail_eq, tail7]
  funext y
  exact (layV_at _ y).trans (congrFun ((U_arr m c 6).trans (final6 m c)) _)

/-- The value heads. -/
theorem res9 : Pipeline.afterTail₀ cfgs (dats m) 0 (V0 m) [hostOps1] c main_v9 = linK m c 2 := by
  rw [tail_eq, tail9]
  funext y
  exact (layV_at _ y).trans (congrFun ((U_arr m c 7).trans (final7 m c)) _)

/-- The codes. -/
theorem res10 : Pipeline.afterTail₀ cfgs (dats m) 0 (V0 m) [hostOps1] c main_v10 = codesK m c := by
  rw [tail_eq, tail10]
  funext y
  exact (codes_at _ y).trans (congrFun ((U_arr m c 8).trans (final8 m c)) _)

/-- The scales. -/
theorem res11 : Pipeline.afterTail₀ cfgs (dats m) 0 (V0 m) [hostOps1] c main_v11 = scalesK m c := by
  rw [tail_eq, tail11]
  funext y
  exact (scales_at _ y).trans (congrFun ((U_arr m c 9).trans (final9 m c)) _)

/-! ## The precondition -/

/-- The rows' largest magnitudes as the precondition takes them. -/
def preMax (x : FVec Ideal Cert.Pre_rows_in_range.S1x3072x5120 .bf16) : FVec Ideal Cert.Pre_rows_in_range.S1x3072 .f32 :=
  Host.reduce FloatOps.maximumf (Host.absf (extf .f32 x Cert.Pre_rows_in_range.Gen.bitsLt_bf16_f32)) (constant Cert.Pre_rows_in_range.S_ .f32 0xFF800000#32)
    Cert.Pre_rows_in_range.Gen.reducesTo_S1x3072x5120_S1x3072_d2 Cert.Pre_rows_in_range.Gen.h_S_

/-- They are the rows' largest magnitudes. -/
theorem preMax_at (x : FVec Ideal Cert.Pre_rows_in_range.S1x3072x5120 .bf16) (y : Cert.Pre_rows_in_range.S1x3072.Idx) :
    preMax x y = amax fun k => x (ix3 0 (y 1) k) := by
  unfold amax
  pointwise [preMax]
  rfl

/-- The bit the precondition makes of a largest magnitude. -/
def preBit (a : FVec Ideal Cert.Pre_rows_in_range.S1x3072 .f32) : IVec Cert.Pre_rows_in_range.S1x3072 1 :=
  ori (cmpf .oeq a (broadcastInDim Cert.Pre_rows_in_range.S1x3072 ![] Cert.Pre_rows_in_range.Gen.bcast_S_S1x3072 (constant Cert.Pre_rows_in_range.S_ .f32 0x00000000#32)))
    (andi (cmpf .oge (mulf a (broadcastInDim Cert.Pre_rows_in_range.S1x3072 ![] Cert.Pre_rows_in_range.Gen.bcast_S_S1x3072 (constant Cert.Pre_rows_in_range.S_ .f32 0x3B124925#32)))
        (broadcastInDim Cert.Pre_rows_in_range.S1x3072 ![] Cert.Pre_rows_in_range.Gen.bcast_S_S1x3072 (constant Cert.Pre_rows_in_range.S_ .f32 0x00800000#32)))
      (cmpf .ole a (broadcastInDim Cert.Pre_rows_in_range.S1x3072 ![] Cert.Pre_rows_in_range.Gen.bcast_S_S1x3072 (constant Cert.Pre_rows_in_range.S_ .f32 0x7F7F0000#32))))

/-- The bit at a row. -/
theorem preBit_at (a : FVec Ideal Cert.Pre_rows_in_range.S1x3072 .f32) (y : Cert.Pre_rows_in_range.S1x3072.Idx) :
    preBit a y = Ideal.cmp .oeq (a y) (Ideal.ofBits .f32 0x00000000#32)
      ||| (Ideal.cmp .oge (a y * Ideal.ofBits .f32 0x3B124925#32) (Ideal.ofBits .f32 0x00800000#32) &&& Ideal.cmp .ole (a y) (Ideal.ofBits .f32 0x7F7F0000#32)) := rfl

/-- The precondition says of each row that it is in range. -/
theorem pre_rows (h : Cert.Pre_rows_in_range.fn (F := Ideal) (a0 m c) (a1 m c) (a2 m c) (a3 m c) (a4 m c) = fun _ => 1#1) (r : Fin 3072) : PreRow (X m c r) := by
  have h1 : preBit (preMax (a0 m c)) (ix2 0 r) = 1#1 := congrFun h (ix2 0 r)
  rw [preBit_at, preMax_at] at h1
  unfold PreRow zOf
  have e : (fun k => a0 m c (ix3 0 ((ix2 (0 : Fin 1) r : Cert.Pre_rows_in_range.S1x3072.Idx) 1) k)) = X m c r := rfl
  rw [e] at h1
  generalize amax (X m c r) = a at h1 ⊢
  rw [zero_bits] at h1 ⊢
  simp only [Ideal.cmp] at h1
  by_cases c1 : a = 0
  · exact Or.inl c1
  · refine Or.inr ?_
    by_cases c2 : Ideal.ofBits .f32 0x00800000#32 ≤ a * Ideal.ofBits .f32 0x3B124925#32
    · by_cases c3 : a ≤ Ideal.ofBits .f32 0x7F7F0000#32
      · exact ⟨c2, c3⟩
      · simp [c1, c2, c3] at h1
    · simp [c1, c2] at h1

end Cert.KernelIdeal.Value

end
-- ==== Proof.RefHost.lean ====
module

public import proofs.«01_k».proof.Proof.Gen.ReferenceIdeal.Frame
public import Idealize.ShloMosaic.Lib.StableHlo.ReadAt
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-! ## The reference's host lines before the product, as functions of whole arrays -/

/-- The largest magnitude of every row. -/
def amaxV (x : FVec Ideal S1x3072x5120 .bf16) : FVec Ideal S1x3072x1 .f32 :=
  broadcastInDim S1x3072x1 ![0, 1] bcast_S1x3072_S1x3072x1_0_1
    (Host.reduce FloatOps.maximumf (Host.absf (extf .f32 x bitsLt_bf16_f32)) (constant S_ .f32 0xFF800000#32) reducesTo_S1x3072x5120_S1x3072_d2 h_S_)

/-- The powers of two from `2 ^ -125` on. -/
def powV : FVec Ideal S254 .f32 :=
  Host.powf (broadcastInDim S254 ![] bcast_S_S254 (constant S_ .f32 0x40000000#32))
    (addf (broadcastInDim S254 ![] bcast_S_S254 (constant S_ .f32 0xC2FA0000#32)) (sitofp .f32 (iotaInDim S254 32 0)))

/-- For every row and power: the power where it exceeds the row's value, infinity elsewhere. -/
def candV (p : FVec Ideal S254 .f32) (z : FVec Ideal S1x3072x1 .f32) : FVec Ideal S1x3072x254 .f32 :=
  select (cmpf .ogt (broadcastInDim S1x3072x254 ![0, 1, 2] bcast_S1x1x254_S1x3072x254_0_1_2 (broadcastInDim S1x1x254 ![2] bcast_S254_S1x1x254_2 p))
      (broadcastInDim S1x3072x254 ![0, 1, 2] bcast_S1x3072x1_S1x3072x254_0_1_2 z))
    (broadcastInDim S1x3072x254 ![2] bcast_S254_S1x3072x254_2 p) (broadcastInDim S1x3072x254 ![] bcast_S_S1x3072x254 (constant S_ .f32 0x7F800000#32))

/-- The rows' largest magnitudes over 448. -/
def zV (a : FVec Ideal S1x3072x1 .f32) : FVec Ideal S1x3072x1 .f32 :=
  mulf a (broadcastInDim S1x3072x1 ![] bcast_S_S1x3072x1 (constant S_ .f32 0x3B124925#32))

/-- The least candidate of every row. -/
def leastV (v : FVec Ideal S1x3072x254 .f32) : FVec Ideal S1x3072x1 .f32 :=
  broadcastInDim S1x3072x1 ![0, 1] bcast_S1x3072_S1x3072x1_0_1
    (Host.reduce FloatOps.minimumf v (constant S_ .f32 0x7F800000#32) reducesTo_S1x3072x254_S1x3072_d2 h_S_)

/-- The rows' scales: one for a row of zeros, the least candidate elsewhere. -/
def scaleV (a l : FVec Ideal S1x3072x1 .f32) : FVec Ideal S1x3072x1 .f32 :=
  select (cmpf .oeq a (broadcastInDim S1x3072x1 ![] bcast_S_S1x3072x1 (constant S_ .f32 0x00000000#32)))
    (broadcastInDim S1x3072x1 ![] bcast_S_S1x3072x1 (constant S_ .f32 0x3F800000#32)) l

/-- The rows over their scales, clipped. -/
def clipV (x : FVec Ideal S1x3072x5120 .bf16) (s : FVec Ideal S1x3072x1 .f32) : FVec Ideal S1x3072x5120 .f32 :=
  minimumf (broadcastInDim S1x3072x5120 ![] bcast_S_S1x3072x5120 (constant S_ .f32 0x43E00000#32))
    (maximumf (broadcastInDim S1x3072x5120 ![] bcast_S_S1x3072x5120 (constant S_ .f32 0xC3E00000#32))
      (mulf (extf .f32 x bitsLt_bf16_f32)
        (broadcastInDim S1x3072x5120 ![0, 1, 2] bcast_S1x3072x1_S1x3072x5120_0_1_2
          (Host.divf (broadcastInDim S1x3072x1 ![] bcast_S_S1x3072x1 (constant S_ .f32 0x3F800000#32)) s))))

/-- The scales of an array of rows. -/
def scalesOf (x : FVec Ideal S1x3072x5120 .bf16) : FVec Ideal S1x3072x1 .f32 := scaleV (amaxV x) (leastV (candV powV (zV (amaxV x))))

variable (m : (ℓ : Loc nD τ sig) → Buf (Elt Ideal) ℓ)

set_option maxHeartbeats 4000000 in
/-- The scales' buffer when the product starts. -/
theorem V_scale (c : Dev nD) : V m c main_v20 = scalesOf (m ((c : Thread nD τ).loc main_arg0)) := by
  unfold V V0
  simp only [List.flatten_cons, List.flatten_nil, List.append_nil, List.cons_append, List.nil_append]
  after_reads_simp
  simp -implicitDefEqProofs only [StableHlo.TRef.toBuf, StableHlo.TRef.ofBuf, cast_cast, cast_eq, id_eq]
  rfl

set_option maxHeartbeats 4000000 in
/-- The clipped rows' buffer when the product starts. -/
theorem V_clip (c : Dev nD) : V m c main_v26 = shapeCast S3072x5120 (clipV (m ((c : Thread nD τ).loc main_arg0)) (scalesOf (m ((c : Thread nD τ).loc main_arg0)))) shapeCasts_S1x3072x5120_S3072x5120 := by
  unfold V V0
  simp only [List.flatten_cons, List.flatten_nil, List.append_nil, List.cons_append, List.nil_append]
  after_reads_simp
  simp -implicitDefEqProofs only [StableHlo.TRef.toBuf, StableHlo.TRef.ofBuf, cast_cast, cast_eq, id_eq]
  rfl

/-! ## At an index -/

/-- The largest magnitude of a row, at an index. -/
theorem amaxV_at (x : FVec Ideal S1x3072x5120 .bf16) (y : S1x3072x1.Idx) :
    amaxV x y = Finset.univ.fold max (Ideal.ofBits .f32 0xFF800000#32) fun k : Fin 5120 => max (x (ix3 0 (y 1) k)) (-x (ix3 0 (y 1) k)) := by
  pointwise [amaxV]
  rfl

/-- The powers of two, at an index: two to the power of the index less 125. -/
theorem powV_at (k : Fin 254) : powV (ix1 k) = Ideal.pow (Ideal.ofBits .f32 0x40000000#32) (Ideal.ofBits .f32 0xC2FA0000#32 + FloatOps.sitofp (F := Ideal) .f32 (BitVec.ofNat 32 k.val)) := by
  pointwise [powV]

/-- The largest magnitude over 448, at an index. -/
theorem zV_at (a : FVec Ideal S1x3072x1 .f32) (y : S1x3072x1.Idx) : zV a y = a y * Ideal.ofBits .f32 0x3B124925#32 := by
  pointwise [zV]

/-- The candidates for the scale, at an index: the power if it is above the value, infinity otherwise. -/
theorem candV_at (p : FVec Ideal S254 .f32) (z : FVec Ideal S1x3072x1 .f32) (y : S1x3072x254.Idx) :
    candV p z y = if z (ix3 0 (y 1) 0) < p (ix1 (y 2)) then p (ix1 (y 2)) else Ideal.ofBits .f32 0x7F800000#32 := by
  pointwise [candV]

/-- The least candidate, at an index. -/
theorem leastV_at (v : FVec Ideal S1x3072x254 .f32) (y : S1x3072x1.Idx) :
    leastV v y = Finset.univ.fold min (Ideal.ofBits .f32 0x7F800000#32) fun k : Fin 254 => v (ix3 0 (y 1) k) := by
  pointwise [leastV]

/-- The scale, at an index: one for a row of zeros, the least candidate otherwise. -/
theorem scaleV_at (a l : FVec Ideal S1x3072x1 .f32) (y : S1x3072x1.Idx) :
    scaleV a l y = if a y = Ideal.ofBits .f32 0x00000000#32 then Ideal.ofBits .f32 0x3F800000#32 else l y := by
  pointwise [scaleV]

/-- The scaled and clipped rows, at an index. -/
theorem clipV_at (x : FVec Ideal S1x3072x5120 .bf16) (s : FVec Ideal S1x3072x1 .f32) (y : S1x3072x5120.Idx) :
    clipV x s y = min (Ideal.ofBits .f32 0x43E00000#32) (max (Ideal.ofBits .f32 0xC3E00000#32) (x y * Ideal.div (Ideal.ofBits .f32 0x3F800000#32) (s (ix3 0 (y 1) 0)))) := by
  pointwise [clipV]

end Cert.ReferenceIdeal.Value

end
-- ==== Proof.RefTail.lean ====
module

public import proofs.«01_k».proof.Proof.RefHost
public import proofs.«01_k».proof.Proof.RowMath

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Value

/-! ## The reference's host lines after the product, as functions of whole arrays -/

/-- The product times the scales, plus the bias, by row, group, head and lane. -/
def affV (acc : FVec Ideal S3072x7680 .f32) (s : FVec Ideal S1x3072x1 .f32) (ws : FVec Ideal S7680 .f32) (b : FVec Ideal S7680 .bf16) :
    FVec Ideal S1x3072x3x20x128 .f32 :=
  addf (mulf (mulf (shapeCast S1x3072x3x20x128 acc shapeCasts_S3072x7680_S1x3072x3x20x128)
      (broadcastInDim S1x3072x3x20x128 ![0, 1, 2, 3, 4] bcast_S1x3072x1x1x1_S1x3072x3x20x128_0_1_2_3_4 (broadcastInDim S1x3072x1x1x1 ![0, 1, 2] bcast_S1x3072x1_S1x3072x1x1x1_0_1_2 s)))
      (broadcastInDim S1x3072x3x20x128 ![0, 1, 2, 3, 4] bcast_S1x1x3x20x128_S1x3072x3x20x128_0_1_2_3_4
        (broadcastInDim S1x1x3x20x128 ![2, 3, 4] bcast_S3x20x128_S1x1x3x20x128_2_3_4 (shapeCast S3x20x128 ws shapeCasts_S7680_S3x20x128))))
    (broadcastInDim S1x3072x3x20x128 ![0, 1, 2, 3, 4] bcast_S1x1x3x20x128_S1x3072x3x20x128_0_1_2_3_4
      (broadcastInDim S1x1x3x20x128 ![2, 3, 4] bcast_S3x20x128_S1x1x3x20x128_2_3_4 (shapeCast S3x20x128 (extf .f32 b bitsLt_bf16_f32) shapeCasts_S7680_S3x20x128)))

/-- The angles by row and lane of a half. -/
def angV (p : IVec S1x3072 32) : FVec Ideal S1x3072x64 .f32 :=
  mulf (broadcastInDim S1x3072x64 ![0, 1, 2] bcast_S1x3072x1_S1x3072x64_0_1_2 (broadcastInDim S1x3072x1 ![0, 1] bcast_S1x3072_S1x3072x1_0_1 (sitofp .f32 p)))
    (broadcastInDim S1x3072x64 ![0, 1, 2] bcast_S1x1x64_S1x3072x64_0_1_2 (broadcastInDim S1x1x64 ![2] bcast_S64_S1x1x64_2
      (Host.powf (broadcastInDim S64 ![] bcast_S_S64 (constant S_ .f32 0x49742400#32))
        (Host.divf (Host.negf (mulf (broadcastInDim S64 ![] bcast_S_S64 (constant S_ .f32 0x40000000#32)) (sitofp .f32 (iotaInDim S64 32 0))))
          (broadcastInDim S64 ![] bcast_S_S64 (constant S_ .f32 0x43000000#32))))))

/-- A value by row and lane of a half, for every head. -/
def spreadV (v : FVec Ideal S1x3072x64 .f32) : FVec Ideal S1x3072x20x64 .f32 :=
  broadcastInDim S1x3072x20x64 ![0, 1, 2, 3] bcast_S1x3072x1x64_S1x3072x20x64_0_1_2_3 (broadcastInDim S1x3072x1x64 ![0, 1, 3] bcast_S1x3072x64_S1x3072x1x64_0_1_3 v)

/-- One group of heads. -/
def groupV (g : Nat) (hs : S1x3072x3x20x128.Slices ![0, 0, g, 0, 0] S1x3072x1x20x128) (v : FVec Ideal S1x3072x3x20x128 .f32) : FVec Ideal S1x3072x20x128 .f32 :=
  shapeCast S1x3072x20x128 (extractStridedSlice S1x3072x1x20x128 ![0, 0, g, 0, 0] v hs) shapeCasts_S1x3072x1x20x128_S1x3072x20x128

/-- The lower half of the lanes. -/
def loV (v : FVec Ideal S1x3072x20x128 .f32) : FVec Ideal S1x3072x20x64 .f32 := extractStridedSlice S1x3072x20x64 ![0, 0, 0, 0] v slices_S1x3072x20x128_S1x3072x20x64_0_0_0_0
/-- The upper half of the lanes. -/
def hiV (v : FVec Ideal S1x3072x20x128 .f32) : FVec Ideal S1x3072x20x64 .f32 := extractStridedSlice S1x3072x20x64 ![0, 0, 0, 64] v slices_S1x3072x20x128_S1x3072x20x64_0_0_0_64

/-- A group of heads turned by an array of angles. -/
def rotV (v : FVec Ideal S1x3072x20x128 .f32) (a : FVec Ideal S1x3072x64 .f32) : FVec Ideal S1x3072x20x128 .bf16 :=
  truncf .bf16 (concatenate S1x3072x20x128 3
    [⟨S1x3072x20x64, subf (mulf (loV v) (spreadV (Host.cos a))) (mulf (hiV v) (spreadV (Host.sin a)))⟩,
      ⟨S1x3072x20x64, addf (mulf (hiV v) (spreadV (Host.cos a))) (mulf (loV v) (spreadV (Host.sin a)))⟩] concatenates_S1x3072x20x64_S1x3072x20x64_S1x3072x20x128_d3) bitsLt_bf16_f32

variable (U : Valuation τ sig (Elt Ideal))

/-- The affine part from the buffers the product leaves. -/
abbrev affU : FVec Ideal S1x3072x3x20x128 .f32 :=
  affV (U (Proc.devRef .tc main_v27_1)) (U (Proc.devRef .tc main_v20)) (U (Proc.devRef .tc main_arg2)) (U (Proc.devRef .tc main_arg3))

set_option maxHeartbeats 4000000 in
/-- The first result after the host lines. -/
theorem tail91 : StableHlo.after hostOps1 U (Proc.devRef .tc main_v91) = rotV (groupV 0 slices_S1x3072x3x20x128_S1x3072x1x20x128_0_0_0_0_0 (affU U)) (angV (U (Proc.devRef .tc main_arg4))) := by
  after_reads_simp
  rfl

set_option maxHeartbeats 4000000 in
/-- The second result after the host lines. -/
theorem tail92 : StableHlo.after hostOps1 U (Proc.devRef .tc main_v92) = rotV (groupV 1 slices_S1x3072x3x20x128_S1x3072x1x20x128_0_0_1_0_0 (affU U)) (angV (U (Proc.devRef .tc main_arg4))) := by
  after_reads_simp
  rfl

set_option maxHeartbeats 4000000 in
/-- The third result after the host lines. -/
theorem tail93 : StableHlo.after hostOps1 U (Proc.devRef .tc main_v93) = truncf .bf16 (groupV 2 slices_S1x3072x3x20x128_S1x3072x1x20x128_0_0_2_0_0 (affU U)) bitsLt_bf16_f32 := by
  after_reads_simp
  rfl

set_option maxHeartbeats 4000000 in
/-- The fourth result after the host lines. -/
theorem tail94 : StableHlo.after hostOps1 U (Proc.devRef .tc main_v94) = shapeCast S1x3072x5120 (U (Proc.devRef .tc main_v27_0)) shapeCasts_S3072x5120_S1x3072x5120 := by
  after_reads_simp
  rfl

set_option maxHeartbeats 4000000 in
/-- The fifth result after the host lines. -/
theorem tail20 : StableHlo.after hostOps1 U (Proc.devRef .tc main_v20) = U (Proc.devRef .tc main_v20) := by
  after_reads_simp

/-! ## At an index -/

/-- The affine part at an index: the product times the row scale and the column scale, plus the bias. -/
theorem affV_at (acc : FVec Ideal S3072x7680 .f32) (s : FVec Ideal S1x3072x1 .f32) (ws : FVec Ideal S7680 .f32) (b : FVec Ideal S7680 .bf16) (y : S1x3072x3x20x128.Idx) :
    affV acc s ws b y = acc (ix2 (y 1) (colOf ⟨20 * (y 2).val + (y 3).val, by have := (y 2).isLt; have := (y 3).isLt; simp at *; omega⟩ (y 4))) * s (ix3 0 (y 1) 0)
      * ws (ix1 (colOf ⟨20 * (y 2).val + (y 3).val, by have := (y 2).isLt; have := (y 3).isLt; simp at *; omega⟩ (y 4)))
      + b (ix1 (colOf ⟨20 * (y 2).val + (y 3).val, by have := (y 2).isLt; have := (y 3).isLt; simp at *; omega⟩ (y 4))) := by
  have e : ∀ h, (⟨(y 2).val * 2560 + (y 3).val * 128 + (y 4).val, h⟩ : Fin 7680) = colOf ⟨20 * (y 2).val + (y 3).val, by have := (y 2).isLt; have := (y 3).isLt; simp at *; omega⟩ (y 4) :=
    fun h => Fin.ext (by simp only [colOf]; omega)
  pointwise [affV]
  simp only [e]

/-- The angle of a position and a frequency, at an index. -/
theorem angV_at (p : IVec S1x3072 32) (y : S1x3072x64.Idx) : angV p y = ang (p (ix2 0 (y 1))) (BitVec.ofNat 32 (y 2).val) := by
  pointwise [angV]
  unfold ang
  rw [zero_sub]

/-- Values per row and frequency, spread over the heads, at an index. -/
theorem spreadV_at (v : FVec Ideal S1x3072x64 .f32) (y : S1x3072x20x64.Idx) : spreadV v y = v (ix3 0 (y 1) (y 3)) := by
  pointwise [spreadV]

/-- One of the three groups of heads, at an index. -/
theorem groupV_at (g : Nat) (hg : g < 3) (hs : S1x3072x3x20x128.Slices ![0, 0, g, 0, 0] S1x3072x1x20x128) (v : FVec Ideal S1x3072x3x20x128 .f32) (y : S1x3072x20x128.Idx) :
    groupV g hs v y = v (ix5 0 (y 1) ⟨g, hg⟩ (y 2) (y 3)) := by
  pointwise [groupV]

/-- The lower half of the lanes, at an index. -/
theorem loV_at (v : FVec Ideal S1x3072x20x128 .f32) (y : S1x3072x20x64.Idx) : loV v y = v (ix4 0 (y 1) (y 2) ⟨(y 3).val, by have := (y 3).isLt; simp at *; omega⟩) := by
  pointwise [loV]

/-- The upper half of the lanes, at an index. -/
theorem hiV_at (v : FVec Ideal S1x3072x20x128 .f32) (y : S1x3072x20x64.Idx) : hiV v y = v (ix4 0 (y 1) (y 2) ⟨64 + (y 3).val, by have := (y 3).isLt; simp at *; omega⟩) := by
  pointwise [hiV]

/-- The turned heads at an index, for a lane of the lower half and for one of the upper half. -/
theorem rotV_at (v : FVec Ideal S1x3072x20x128 .f32) (a : FVec Ideal S1x3072x64 .f32) (y : S1x3072x20x128.Idx) :
    rotV v a y = if h : (y 3).val < 64 then
        loV v (ix4 0 (y 1) (y 2) ⟨(y 3).val, h⟩) * Ideal.cos (a (ix3 0 (y 1) ⟨(y 3).val, h⟩)) - hiV v (ix4 0 (y 1) (y 2) ⟨(y 3).val, h⟩) * Ideal.sin (a (ix3 0 (y 1) ⟨(y 3).val, h⟩))
      else hiV v (ix4 0 (y 1) (y 2) ⟨(y 3).val - 64, by have := (y 3).isLt; simp at *; omega⟩) * Ideal.cos (a (ix3 0 (y 1) ⟨(y 3).val - 64, by have := (y 3).isLt; simp at *; omega⟩))
        + loV v (ix4 0 (y 1) (y 2) ⟨(y 3).val - 64, by have := (y 3).isLt; simp at *; omega⟩) * Ideal.sin (a (ix3 0 (y 1) ⟨(y 3).val - 64, by have := (y 3).isLt; simp at *; omega⟩)) := by
  pointwise [rotV]
  split_ifs <;> rw [spreadV_at, spreadV_at] <;> rfl

/-! ## The product's arrays -/

variable (m : (ℓ : Loc nD τ sig) → Buf (Elt Ideal) ℓ) (c : Dev nD)

/-- The clipped rows as the product reads them. -/
theorem iblk0_at (t : Fin cfg0.N) (y : S3072x5120.Idx) : iblk m c 0 t y = (V m c main_v26 : FVec Ideal S3072x5120 .f32) y := by
  blk_simp [iblk]
  refine congrArg (V m c main_v26 : FVec Ideal S3072x5120 .f32) ?_
  blk_ext [(by decide +kernel : ∀ t : Fin grid0.N, win0_0.index t = ![0, 0]) t]

/-- The weights as the product reads them. -/
theorem iblk1_at (t : Fin cfg0.N) (y : S5120x7680.Idx) : iblk m c 1 t y = (V m c main_arg1 : FVec Ideal S5120x7680 .fp8e4m3) y := by
  blk_simp [iblk]
  refine congrArg (V m c main_arg1 : FVec Ideal S5120x7680 .fp8e4m3) ?_
  blk_ext [(by decide +kernel : ∀ t : Fin grid0.N, win0_1.index t = ![0, 0]) t]

/-- The codes the product stores at an index. -/
theorem pay1_at (x : Vec Ideal S3072x5120 .f32) (y : S3072x5120.Idx) : k0_pay1 (F := Ideal) x y = x y := by
  pointwise [k0_pay1]

/-- The product at an index. -/
theorem pay2_at (x : Vec Ideal S3072x5120 .f32) (w : Vec Ideal S5120x7680 .fp8e4m3) (y : S3072x7680.Idx) :
    k0_pay2 (F := Ideal) x w y = ∑ k : Fin 5120, x (ix2 (y 0) k) * w (ix2 k (y 1)) := by
  pointwise [k0_pay2]
  simp only [pay1_at]

/-- The codes' array. -/
theorem final2 : (dats m 0 c).arrAt 2 cfg0.N = (V m c main_v26 : FVec Ideal S3072x5120 .f32) := by
  refine (dats m 0 c).arrAt_eq_of_covers 2 _ (by decide +kernel) fun t hf y => ?_
  blk_simp
  rw [after0_2]
  frame_out
  refine (pay1_at _ y).trans ((iblk0_at m c t y).trans (congrArg (V m c main_v26 : FVec Ideal S3072x5120 .f32) ?_))
  blk_ext [(by decide +kernel : ∀ t : Fin grid0.N, win0_2.index t = ![0, 0]) t]

/-- The product of the clipped rows and the weights. -/
def prodU (x : FVec Ideal S3072x5120 .f32) (w : FVec Ideal S5120x7680 .fp8e4m3) (y : S3072x7680.Idx) : EReal := ∑ k : Fin 5120, x (ix2 (y 0) k) * w (ix2 k (y 1))

/-- The product's array. -/
theorem final3 : (dats m 0 c).arrAt 3 cfg0.N = prodU (V m c main_v26) (V m c main_arg1) := by
  refine (dats m 0 c).arrAt_eq_of_covers 3 _ (by decide +kernel) fun t hf y => ?_
  blk_simp
  rw [after0_3]
  frame_out
  refine (pay2_at _ _ y).trans ?_
  refine Eq.trans (b := prodU (V m c main_v26) (V m c main_arg1) y) ?_ (congrArg (prodU (V m c main_v26) (V m c main_arg1)) ?_)
  · exact Finset.sum_congr rfl fun k _ => congrArg₂ (· * ·) (iblk0_at m c t (ix2 (y 0) k)) (iblk1_at m c t (ix2 k (y 1)))
  · blk_ext [(by decide +kernel : ∀ t : Fin grid0.N, win0_3.index t = ![0, 0]) t]

end Cert.ReferenceIdeal.Value

end
-- ==== Proof.RefResults.lean ====
module

public import proofs.«01_k».proof.Proof.RefTail

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Value

variable (m : (ℓ : Loc nD τ sig) → Buf (Elt Ideal) ℓ) (c : Dev nD)

/-- The activations. -/
abbrev a0 : FVec Ideal S1x3072x5120 .bf16 := m ((c : Thread nD τ).loc main_arg0)
/-- The weights. -/
abbrev a1 : FVec Ideal S5120x7680 .fp8e4m3 := m ((c : Thread nD τ).loc main_arg1)
/-- The column scales. -/
abbrev a2 : FVec Ideal S7680 .f32 := m ((c : Thread nD τ).loc main_arg2)
/-- The bias. -/
abbrev a3 : FVec Ideal S7680 .bf16 := m ((c : Thread nD τ).loc main_arg3)
/-- The positions. -/
abbrev a4 : IVec S1x3072 32 := m ((c : Thread nD τ).loc main_arg4)

/-- The activations by row and column. -/
def X (r : Fin 3072) (k : Fin 5120) : EReal := a0 m c (ix3 0 r k)
/-- The weights by row and column. -/
def W (k : Fin 5120) (n : Fin 7680) : EReal := a1 m c (ix2 k n)
/-- The column scales by column. -/
def S (n : Fin 7680) : EReal := a2 m c (ix1 n)
/-- The bias by column. -/
def B (n : Fin 7680) : EReal := a3 m c (ix1 n)
/-- The positions by row. -/
def P (r : Fin 3072) : BitVec 32 := a4 m c (ix2 0 r)

/-- The scales of an array of rows at a row. -/
theorem scalesOf_at (x : FVec Ideal S1x3072x5120 .bf16) (y : S1x3072x1.Idx) : scalesOf x y = refScale fun k => x (ix3 0 (y 1) k) := by
  unfold scalesOf
  rw [scaleV_at, leastV_at, amaxV_at]
  unfold refScale
  simp only [candV_at, zV_at, amaxV_at, powV_at]
  rfl

/-- The clipped rows at an index. -/
theorem clip_at (x : FVec Ideal S1x3072x5120 .bf16) (y : S1x3072x5120.Idx) :
    clipV x (scalesOf x) y = refCode (fun k => x (ix3 0 (y 1) k)) (x y) := by
  rw [clipV_at, scalesOf_at]
  rfl

/-- The reshaped clipped rows at an index. -/
theorem x_at (v : FVec Ideal S1x3072x5120 .f32) (y : S3072x5120.Idx) :
    shapeCast S3072x5120 v shapeCasts_S1x3072x5120_S3072x5120 y = v (ix3 0 (y 0) (y 1)) := by
  pointwise

variable (hpre : ∀ r, PreRow (X m c r))

include hpre in
/-- The scales' buffer, under the precondition. -/
theorem scale_at (y : S1x3072x1.Idx) : (V m c main_v20 : FVec Ideal S1x3072x1 .f32) y = scaleOf (zOf (X m c (y 1))) := by
  rw [V_scale]
  exact (scalesOf_at _ y).trans (scale_eq (hpre (y 1))).1

include hpre in
/-- The clipped rows' buffer, under the precondition. -/
theorem code_at (y : S3072x5120.Idx) : (V m c main_v26 : FVec Ideal S3072x5120 .f32) y = codeOf (X m c (y 0)) (X m c (y 0) (y 1)) := by
  rw [V_clip]
  exact (x_at _ y).trans ((clip_at _ _).trans (code_eq (hpre (y 0)) _))

/-! ## The buffers after the product -/

/-- The buffers when the product is done. -/
abbrev UU : Valuation τ sig (Elt Ideal) := Pipeline.withArrays (cfgs 0).spec c (V0 m c) fun w => (dats m 0 c).arrAt w (cfgs 0).N

/-- After the call the product's buffer holds the product of the clipped rows and the weights. -/
theorem U_acc : UU m c (Proc.devRef .tc main_v27_1) = prodU (V m c main_v26) (V m c main_arg1) :=
  (Pipeline.withArrays_arr spec0 (by decide) c (V0 m c) (fun w => (dats m 0 c).arrAt w (cfgs 0).N) 3).trans (final3 m c)

/-- After the call the codes' buffer holds the clipped rows. -/
theorem U_codes : UU m c (Proc.devRef .tc main_v27_0) = (V m c main_v26 : FVec Ideal S3072x5120 .f32) :=
  (Pipeline.withArrays_arr spec0 (by decide) c (V0 m c) (fun w => (dats m 0 c).arrAt w (cfgs 0).N) 2).trans (final2 m c)

/-- The call leaves the scales as they were. -/
theorem U_scale : UU m c (Proc.devRef .tc main_v20) = V m c main_v20 :=
  Pipeline.withArrays_of_ne _ c (V0 m c) _ main_v20 (by exact (by decide : ∀ w, Pipeline.arrRef spec0 w ≠ main_v20))

/-- The call leaves the column scales as they were. -/
theorem U_arg2 : UU m c (Proc.devRef .tc main_arg2) = a2 m c :=
  (Pipeline.withArrays_of_ne _ c (V0 m c) _ main_arg2 (by exact (by decide : ∀ w, Pipeline.arrRef spec0 w ≠ main_arg2))).trans (V_main_arg2 m c)

/-- The call leaves the biases as they were. -/
theorem U_arg3 : UU m c (Proc.devRef .tc main_arg3) = a3 m c :=
  (Pipeline.withArrays_of_ne _ c (V0 m c) _ main_arg3 (by exact (by decide : ∀ w, Pipeline.arrRef spec0 w ≠ main_arg3))).trans (V_main_arg3 m c)

/-- The call leaves the positions as they were. -/
theorem U_arg4 : UU m c (Proc.devRef .tc main_arg4) = a4 m c :=
  (Pipeline.withArrays_of_ne _ c (V0 m c) _ main_arg4 (by exact (by decide : ∀ w, Pipeline.arrRef spec0 w ≠ main_arg4))).trans (V_main_arg4 m c)

/-- Head `n` of group `g` among all the heads. -/
def headOf (g : Fin 3) (n : Fin 20) : Fin 60 := ⟨20 * g.val + n.val, by omega⟩

include hpre in
/-- The affine part at an index, under the precondition. -/
theorem aff_at (r : Fin 3072) (g : Fin 3) (n : Fin 20) (l : Fin 128) :
    affU (UU m c) (ix5 0 r g n l) = headS (X m c) (W m c) (S m c) (B m c) (headOf g n) r l := by
  unfold affU
  rw [affV_at, U_acc, U_scale, U_arg2, U_arg3]
  refine congrArg₂ (· + ·) (congrArg₂ (· * ·) (congrArg₂ (· * ·) (Finset.sum_congr rfl fun k _ => congrArg₂ (· * ·) (code_at m c hpre (ix2 r k)) ?_) (scale_at m c hpre _)) rfl) rfl
  exact congrFun (V_main_arg1 m c) _

include hpre in
/-- A group's heads turned, under the precondition. -/
theorem rot_at (g : Nat) (hg : g < 3) (hs : S1x3072x3x20x128.Slices ![0, 0, g, 0, 0] S1x3072x1x20x128) (y : S1x3072x20x128.Idx) :
    rotV (groupV g hs (affU (UU m c))) (angV (UU m c (Proc.devRef .tc main_arg4))) y
      = turnS (X m c) (W m c) (S m c) (B m c) (P m c) (headOf ⟨g, hg⟩ (y 2)) (y 1) (y 3) := by
  have hl : (y 3).val < 128 := (y 3).isLt
  have key : ∀ l : Fin 128, groupV g hs (affU (UU m c)) (ix4 0 (y 1) (y 2) l) = headS (X m c) (W m c) (S m c) (B m c) (headOf ⟨g, hg⟩ (y 2)) (y 1) l :=
    fun l => (groupV_at g hg hs _ _).trans (aff_at m c hpre (y 1) ⟨g, hg⟩ (y 2) l)
  have hang : ∀ l : Fin 64, angV (UU m c (Proc.devRef .tc main_arg4)) (ix3 0 (y 1) l) = ang (P m c (y 1)) (BitVec.ofNat 32 l.val) := by
    intro l
    rw [U_arg4]
    exact angV_at _ _
  rw [rotV_at]
  unfold turnS
  refine Eq.trans ?_ (turn_halves _ _ _ _).symm
  by_cases h : (y 3).val < 64
  · rw [dif_pos h, if_pos h, loV_at, hiV_at, hang]
    have e1 : (⟨(y 3).val, hl⟩ : Fin 128) = y 3 := rfl
    have e2 : ∀ h', (⟨64 + (y 3).val, h'⟩ : Fin 128) = across (y 3) := fun h' => Fin.ext (by simp only [across]; omega)
    have e3 : (y 3).val % 64 = (y 3).val := by omega
    rw [e3]
    refine congrArg₂ (· - ·) (congrArg (· * _) (key _)) (congrArg (· * _) ((key _).trans ?_))
    exact congrArg _ (e2 _)
  · rw [dif_neg h, if_neg h, loV_at, hiV_at, hang]
    have e1 : ∀ h', (⟨64 + ((y 3).val - 64), h'⟩ : Fin 128) = y 3 := fun h' => Fin.ext (by simp only; omega)
    have e2 : ∀ h', (⟨(y 3).val - 64, h'⟩ : Fin 128) = across (y 3) := fun h' => Fin.ext (by simp only [across]; omega)
    have e3 : (y 3).val % 64 = (y 3).val - 64 := by omega
    rw [e3]
    refine congrArg₂ (· + ·) (congrArg (· * _) ((key _).trans ?_)) (congrArg (· * _) ((key _).trans ?_))
    · exact congrArg _ (e1 _)
    · exact congrArg _ (e2 _)

/-! ## The results -/

/-- A group's heads, turned. -/
def turnedR (g : Fin 3) (y : S1x3072x20x128.Idx) : EReal := turnS (X m c) (W m c) (S m c) (B m c) (P m c) (headOf g (y 2)) (y 1) (y 3)
/-- A group's heads, not turned. -/
def linR (g : Fin 3) (y : S1x3072x20x128.Idx) : EReal := headS (X m c) (W m c) (S m c) (B m c) (headOf g (y 2)) (y 1) (y 3)
/-- The codes. -/
def codesR (y : S1x3072x5120.Idx) : EReal := codeOf (X m c (y 1)) (X m c (y 1) (y 2))
/-- The scales. -/
def scalesR (y : S1x3072x1.Idx) : EReal := scaleOf (zOf (X m c (y 1)))

/-- A result after the host lines is the host lines over the buffers the product leaves. -/
theorem tail_eq (b : Ref sig .tc) : Pipeline.afterTail₀ cfgs (dats m) 0 (V0 m) [hostOps1] c b = StableHlo.after hostOps1 (UU m c) (Proc.devRef .tc b) := by
  unfold Pipeline.afterTail₀
  simp only [List.flatten_cons, List.flatten_nil, List.append_nil]

include hpre in
/-- The query heads. -/
theorem res91 : Pipeline.afterTail₀ cfgs (dats m) 0 (V0 m) [hostOps1] c main_v91 = turnedR m c 0 := by
  rw [tail_eq, tail91]
  funext y
  exact rot_at m c hpre 0 (by decide) _ y

include hpre in
/-- The key heads. -/
theorem res92 : Pipeline.afterTail₀ cfgs (dats m) 0 (V0 m) [hostOps1] c main_v92 = turnedR m c 1 := by
  rw [tail_eq, tail92]
  funext y
  exact rot_at m c hpre 1 (by decide) _ y

include hpre in
/-- The value heads. -/
theorem res93 : Pipeline.afterTail₀ cfgs (dats m) 0 (V0 m) [hostOps1] c main_v93 = linR m c 2 := by
  rw [tail_eq, tail93]
  funext y
  exact (groupV_at 2 (by decide) slices_S1x3072x3x20x128_S1x3072x1x20x128_0_0_2_0_0 _ y).trans (aff_at m c hpre (y 1) 2 (y 2) (y 3))

/-- The reshaped codes at an index. -/
theorem codes_at (v : FVec Ideal S3072x5120 .fp8e4m3) (y : S1x3072x5120.Idx) :
    shapeCast S1x3072x5120 v shapeCasts_S3072x5120_S1x3072x5120 y = v (ix2 (y 1) (y 2)) := by
  pointwise

include hpre in
/-- The codes. -/
theorem res94 : Pipeline.afterTail₀ cfgs (dats m) 0 (V0 m) [hostOps1] c main_v94 = codesR m c := by
  rw [tail_eq, tail94, U_codes]
  funext y
  exact (codes_at _ y).trans (code_at m c hpre _)

include hpre in
/-- The scales. -/
theorem res20 : Pipeline.afterTail₀ cfgs (dats m) 0 (V0 m) [hostOps1] c main_v20 = scalesR m c := by
  rw [tail_eq, tail20, U_scale]
  funext y
  exact scale_at m c hpre y

end Cert.ReferenceIdeal.Value

end
-- ==== Proof.Algebraic.lean ====
module

public import proofs.«01_k».proof.Defs
public import proofs.«01_k».proof.Proof.Results
public import proofs.«01_k».proof.Proof.RefResults

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

/-- The kernel runs, ends with its five results at their values, and leaves its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = turnedK m c 0
      ∧ r.2.mem ((c.tc : Thread nD τ).loc main_v7) = turnedK m c 1
      ∧ r.2.mem ((c.tc : Thread nD τ).loc main_v9) = linK m c 2
      ∧ r.2.mem ((c.tc : Thread nD τ).loc main_v10) = codesK m c
      ∧ r.2.mem ((c.tc : Thread nD τ).loc main_v11) = scalesK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v5 (Pipeline.mem_restRefs_of main_v5 (by decide) (by decide))).trans (res5 m c),
      ((h.1 c).2 main_v7 (Pipeline.mem_restRefs_of main_v7 (by decide) (by decide))).trans (res7 m c),
      ((h.1 c).2 main_v9 (Pipeline.mem_restRefs_of main_v9 (by decide) (by decide))).trans (res9 m c),
      ((h.1 c).2 main_v10 (Pipeline.mem_restRefs_of main_v10 (by decide) (by decide))).trans (res10 m c),
      ((h.1 c).2 main_v11 (Pipeline.mem_restRefs_of main_v11 (by decide) (by decide))).trans (res11 m c), h.2 c⟩)
    (θ_run_and (run_main m g) (unchanged m g))

end Cert.KernelIdeal.Value

namespace Cert.ReferenceIdeal.Value

open Idealize.ShloMosaic Idealize.ShloMosaic.TcCoe Idealize.SL.Sem
open Cert.ReferenceIdeal Cert.ReferenceIdeal.Gen Cert.Value

/-- Under the precondition the reference runs, ends with its five results at their values, and leaves its arguments. -/
theorem run (m : (ℓ : Loc nD τ sig) → Buf (Elt Ideal) ℓ) (g : Dev nD → PrngReg) (hpre : ∀ (c : Dev nD) (r : Fin 3072), PreRow (X m c r)) :
    θ_run (defs (F := Ideal)) (onTc (τ := τ) (main (F := Ideal))) ⟨m, fun _ => 0, g⟩ (fun r => ∀ c : Dev nD,
      r.2.mem ((c.tc : Thread nD τ).loc main_v91) = turnedR m c 0
      ∧ r.2.mem ((c.tc : Thread nD τ).loc main_v92) = turnedR m c 1
      ∧ r.2.mem ((c.tc : Thread nD τ).loc main_v93) = linR m c 2
      ∧ r.2.mem ((c.tc : Thread nD τ).loc main_v94) = codesR m c
      ∧ r.2.mem ((c.tc : Thread nD τ).loc main_v20) = scalesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v91 (Pipeline.mem_restRefs_of main_v91 (by decide) (by decide))).trans (res91 m c (hpre c)),
      ((h.1 c).2 main_v92 (Pipeline.mem_restRefs_of main_v92 (by decide) (by decide))).trans (res92 m c (hpre c)),
      ((h.1 c).2 main_v93 (Pipeline.mem_restRefs_of main_v93 (by decide) (by decide))).trans (res93 m c (hpre c)),
      ((h.1 c).2 main_v94 (Pipeline.mem_restRefs_of main_v94 (by decide) (by decide))).trans (res94 m c (hpre c)),
      ((h.1 c).2 main_v20 (Pipeline.mem_restRefs_of main_v20 (by decide) (by decide))).trans (res20 m c (hpre c)), h.2 c⟩)
    (θ_run_and (run_main m g) (unchanged m g))

end Cert.ReferenceIdeal.Value

namespace Cert.Value

open Idealize.ShloMosaic Idealize.SL.Sem

/-- The kernel and the reference end with equal results, from equal arguments in the precondition's range. -/
theorem algebraic : Cert.algebraic_KernelIdeal_ReferenceIdeal_pre_rows_in_range (hKernelIdeal := Cert.KernelIdeal.Gen.facts)
    (hReferenceIdeal := Cert.ReferenceIdeal.Gen.facts) (hPre_rows_in_range := Cert.Pre_rows_in_range.Gen.facts) := by
  intro m g m' g' hp ha
  have hX : ∀ c, Cert.ReferenceIdeal.Value.X m' c = Cert.KernelIdeal.Value.X m c := fun c => by
    funext r k
    exact congrFun (ha c).1 _
  have hW : ∀ c, Cert.ReferenceIdeal.Value.W m' c = Cert.KernelIdeal.Value.W m c := fun c => by
    funext k n
    exact congrFun (ha c).2.1 _
  have hS : ∀ c, Cert.ReferenceIdeal.Value.S m' c = Cert.KernelIdeal.Value.S m c := fun c => by
    funext n
    exact congrFun (ha c).2.2.1 _
  have hB : ∀ c, Cert.ReferenceIdeal.Value.B m' c = Cert.KernelIdeal.Value.B m c := fun c => by
    funext n
    exact congrFun (ha c).2.2.2.1 _
  have hP : ∀ c, Cert.ReferenceIdeal.Value.P m' c = Cert.KernelIdeal.Value.P m c := fun c => by
    funext r
    exact congrFun (ha c).2.2.2.2 _
  have hpre : ∀ (c : Dev Cert.ReferenceIdeal.nD) (r : Fin 3072), PreRow (Cert.ReferenceIdeal.Value.X m' c r) := fun c r => by
    rw [hX c]
    exact Cert.KernelIdeal.Value.pre_rows m c (hp c) r
  have ht : ∀ c q, Cert.ReferenceIdeal.Value.turnedR m' c q = Cert.KernelIdeal.Value.turnedK m c q := fun c q => by
    unfold Cert.ReferenceIdeal.Value.turnedR Cert.KernelIdeal.Value.turnedK
    rw [hX c, hW c, hS c, hB c, hP c]
    rfl
  have hl : ∀ c q, Cert.ReferenceIdeal.Value.linR m' c q = Cert.KernelIdeal.Value.linK m c q := fun c q => by
    unfold Cert.ReferenceIdeal.Value.linR Cert.KernelIdeal.Value.linK
    rw [hX c, hW c, hS c, hB c]
    rfl
  have hc : ∀ c, Cert.ReferenceIdeal.Value.codesR m' c = Cert.KernelIdeal.Value.codesK m c := fun c => by
    unfold Cert.ReferenceIdeal.Value.codesR Cert.KernelIdeal.Value.codesK
    rw [hX c]
  have hs : ∀ c, Cert.ReferenceIdeal.Value.scalesR m' c = Cert.KernelIdeal.Value.scalesK m c := fun c => by
    unfold Cert.ReferenceIdeal.Value.scalesR Cert.KernelIdeal.Value.scalesK
    rw [hX c]
  refine ⟨fun c => Cert.KernelIdeal.Value.turnedK m c 0, fun c => Cert.KernelIdeal.Value.turnedK m c 1, fun c => Cert.KernelIdeal.Value.linK m c 2,
    fun c => Cert.KernelIdeal.Value.codesK m c, fun c => Cert.KernelIdeal.Value.scalesK m c, Cert.KernelIdeal.Value.run m g, ?_⟩
  refine (θ_run _ _ _).mono (fun r h c => ?_) (Cert.ReferenceIdeal.Value.run m' g' hpre)
  obtain ⟨h0, h1, h2, h3, h4, h5⟩ := h c
  exact ⟨h0.trans (ht c 0), h1.trans (ht c 1), h2.trans (hl c 2), h3.trans (hc c), h4.trans (hs c), h5⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_rows_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames, the ledger of rewrites, and the equality of all five results. -/
theorem claim : Cert.Claim :=
  ⟨Cert.Kernel.Gen.facts, Cert.KernelIdeal.Gen.facts, Cert.ReferenceIdeal.Gen.facts, Cert.Pre_rows_in_range.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, Cert.Value.algebraic⟩

end Cert.Proof

end
